-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x4096x32 : Shape := ⟨3, ![12, 4096, 32]⟩
abbrev S12x4096 : Shape := ⟨2, ![12, 4096]⟩
abbrev S8192x32 : Shape := ⟨2, ![8192, 32]⟩
abbrev S8192 : Shape := ⟨1, ![8192]⟩
abbrev S49152x32 : Shape := ⟨2, ![49152, 32]⟩
abbrev S192x1x256 : Shape := ⟨3, ![192, 1, 256]⟩
abbrev S8192x1 : Shape := ⟨2, ![8192, 1]⟩
abbrev S256x32 : Shape := ⟨2, ![256, 32]⟩
abbrev S1x1x256 : Shape := ⟨3, ![1, 1, 256]⟩
abbrev S8192x128 : Shape := ⟨2, ![8192, 128]⟩
abbrev S128x32 : Shape := ⟨2, ![128, 32]⟩
abbrev S512x32 : Shape := ⟨2, ![512, 32]⟩
abbrev S512x1 : Shape := ⟨2, ![512, 1]⟩
abbrev S512x128 : Shape := ⟨2, ![512, 128]⟩
abbrev S1x256 : Shape := ⟨2, ![1, 256]⟩
abbrev S8x32 : Shape := ⟨2, ![8, 32]⟩
abbrev S8x256 : Shape := ⟨2, ![8, 256]⟩
abbrev S512x256 : Shape := ⟨2, ![512, 256]⟩
abbrev S8x128 : Shape := ⟨2, ![8, 128]⟩

abbrev nBuf : Space → Nat
  | .hbm => 11
  | .vmem => 12
  | .smem => 0
  | _ => 0

abbrev bufTy : (tb : Table) → Fin (tcTables nBuf tb) → BufTy
  | .hbm, ⟨0, _⟩ => ⟨S12x4096x32, .fp8e4m3⟩
  | .hbm, ⟨1, _⟩ => ⟨S12x4096, .f32⟩
  | .hbm, ⟨2, _⟩ => ⟨S8192x32, .fp8e4m3⟩
  | .hbm, ⟨3, _⟩ => ⟨S8192, .f32⟩
  | .hbm, ⟨4, _⟩ => ⟨S49152x32, .fp8e4m3⟩
  | .hbm, ⟨5, _⟩ => ⟨S192x1x256, .f32⟩
  | .hbm, ⟨6, _⟩ => ⟨S8192x1, .f32⟩
  | .hbm, ⟨7, _⟩ => ⟨S192x1x256, .f32⟩
  | .hbm, ⟨8, _⟩ => ⟨S192x1x256, .f32⟩
  | .hbm, ⟨9, _⟩ => ⟨S12x4096, .f32⟩
  | .hbm, ⟨10, _⟩ => ⟨S12x4096, .f32⟩
  | .local _ .vmem, ⟨0, _⟩ => ⟨S256x32, .fp8e4m3⟩
  | .local _ .vmem, ⟨1, _⟩ => ⟨S256x32, .fp8e4m3⟩
  | .local _ .vmem, ⟨2, _⟩ => ⟨S1x1x256, .f32⟩
  | .local _ .vmem, ⟨3, _⟩ => ⟨S1x1x256, .f32⟩
  | .local _ .vmem, ⟨4, _⟩ => ⟨S8192x32, .fp8e4m3⟩
  | .local _ .vmem, ⟨5, _⟩ => ⟨S8192x1, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S8192x128, .f32⟩
  | .local _ .vmem, ⟨11, _⟩ => ⟨S8192x128, .f32⟩
  | _, _ => ⟨S12x4096x32, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![192], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c16_i32_17 : BitVec 32 := 16#32
  let v73 : BitVec 32 := Scalar.addi c0_i32_16 c16_i32_17
  let c1_i32_18 : BitVec 32 := 1#32
  ⟨c0_i32_16, v73, c1_i32_18⟩
def k0_mult1 (k0_t1 : Fin k0_t1_loop.trips) : BitVec 32 :=
  let c0_i32_21 : BitVec 32 := 0#32
  let c0_i32_16 : BitVec 32 := 0#32
  let c1_i32_18 : BitVec 32 := 1#32
  let arg9 : BitVec 32 := Scf.iv c0_i32_16 c1_i32_18 k0_t1
  let c1_i32_20 : BitVec 32 := 1#32
  let v74 : BitVec 32 := Scalar.muli arg9 c1_i32_20
  let v75 : BitVec 32 := Scalar.addi c0_i32_21 v74
  let c512_i32 : BitVec 32 := 512#32
  let v76 : BitVec 32 := Scalar.muli v75 c512_i32
  v76
def k0_off1 (k0_t1 : Fin k0_t1_loop.trips) : Fin 2 → Nat :=
  let c0_i32_21 : BitVec 32 := 0#32
  let c0_i32_16 : BitVec 32 := 0#32
  let c1_i32_18 : BitVec 32 := 1#32
  let arg9 : BitVec 32 := Scf.iv c0_i32_16 c1_i32_18 k0_t1
  let c1_i32_20 : BitVec 32 := 1#32
  let v74 : BitVec 32 := Scalar.muli arg9 c1_i32_20
  let v75 : BitVec 32 := Scalar.addi c0_i32_21 v74
  let c512_i32 : BitVec 32 := 512#32
  let v76 : BitVec 32 := Scalar.muli v75 c512_i32
  let v77 : BitVec 32 := v76
  let v78 : Index := Scalar.indexCast v77
  let c0_22 : Index := 0#32
  ![v78.toNat, 0]
def k0_off2 (k0_t1 : Fin k0_t1_loop.trips) : Fin 2 → Nat :=
  let c0_i32_21 : BitVec 32 := 0#32
  let c0_i32_16 : BitVec 32 := 0#32
  let c1_i32_18 : BitVec 32 := 1#32
  let arg9 : BitVec 32 := Scf.iv c0_i32_16 c1_i32_18 k0_t1
  let c1_i32_20 : BitVec 32 := 1#32
  let v74 : BitVec 32 := Scalar.muli arg9 c1_i32_20
  let v75 : BitVec 32 := Scalar.addi c0_i32_21 v74
  let c512_i32 : BitVec 32 := 512#32
  let v76 : BitVec 32 := Scalar.muli v75 c512_i32
  let v77 : BitVec 32 := v76
  let v81 : Index := Scalar.indexCast v77
  let c0_23 : Index := 0#32
  ![v81.toNat, 0]
def k0_off3 (k0_t1 : Fin k0_t1_loop.trips) : Fin 2 → Nat :=
  let c0_i32_21 : BitVec 32 := 0#32
  let c0_i32_16 : BitVec 32 := 0#32
  let c1_i32_18 : BitVec 32 := 1#32
  let arg9 : BitVec 32 := Scf.iv c0_i32_16 c1_i32_18 k0_t1
  let c1_i32_20 : BitVec 32 := 1#32
  let v74 : BitVec 32 := Scalar.muli arg9 c1_i32_20
  let v75 : BitVec 32 := Scalar.addi c0_i32_21 v74
  let c512_i32 : BitVec 32 := 512#32
  let v76 : BitVec 32 := Scalar.muli v75 c512_i32
  let v77 : BitVec 32 := v76
  let v90 : Index := Scalar.indexCast v77
  let c0_25 : Index := 0#32
  ![v90.toNat, 0]
@[reducible] def k0_t2_loop : Scf.Loop 32 :=
  let c0_i32_7 : BitVec 32 := 0#32
  let c16_i32 : BitVec 32 := 16#32
  let v17 : BitVec 32 := Scalar.addi c0_i32_7 c16_i32
  let c1_i32 : BitVec 32 := 1#32
  ⟨c0_i32_7, v17, c1_i32⟩
def k0_mult2 (k0_t2 : Fin k0_t2_loop.trips) : BitVec 32 :=
  let c0_i32_7 : BitVec 32 := 0#32
  let c1_i32 : BitVec 32 := 1#32
  let arg9 : BitVec 32 := Scf.iv c0_i32_7 c1_i32 k0_t2
  let c512_i32 : BitVec 32 := 512#32
  let v72 : BitVec 32 := Scalar.muli arg9 c512_i32
  v72
def k0_off4 (k0_t2 : Fin k0_t2_loop.trips) : Fin 2 → Nat :=
  let c0_i32_7 : BitVec 32 := 0#32
  let c1_i32 : BitVec 32 := 1#32
  let arg9 : BitVec 32 := Scf.iv c0_i32_7 c1_i32 k0_t2
  let c512_i32 : BitVec 32 := 512#32
  let v72 : BitVec 32 := Scalar.muli arg9 c512_i32
  let v73 : BitVec 32 := v72
  let v74 : Index := Scalar.indexCast v73
  let c0_15 : Index := 0#32
  ![v74.toNat, 0]
def k0_off5 (k0_t2 : Fin k0_t2_loop.trips) (c0_i32_17 : BitVec 32) : Fin 2 → Nat :=
  let c0_i32_7 : BitVec 32 := 0#32
  let c1_i32 : BitVec 32 := 1#32
  let arg9 : BitVec 32 := Scf.iv c0_i32_7 c1_i32 k0_t2
  let c512_i32 : BitVec 32 := 512#32
  let v72 : BitVec 32 := Scalar.muli arg9 c512_i32
  let v73 : BitVec 32 := v72
  let v77 : BitVec 32 := Scalar.addi v73 c0_i32_17
  let v78 : Index := Scalar.indexCast v77
  let c0_18 : Index := 0#32
  ![v78.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12x4096x32 : Shape := ⟨3, ![12, 4096, 32]⟩
abbrev S12x4096 : Shape := ⟨2, ![12, 4096]⟩
abbrev S8192x32 : Shape := ⟨2, ![8192, 32]⟩
abbrev S8192 : Shape := ⟨1, ![8192]⟩
abbrev S49152x32 : Shape := ⟨2, ![49152, 32]⟩
abbrev S49152 : Shape := ⟨1, ![49152]⟩
abbrev S_ : Shape := ⟨0, ![]⟩
abbrev S49152x8192 : Shape := ⟨2, ![49152, 8192]⟩
abbrev S49152x1 : Shape := ⟨2, ![49152, 1]⟩
abbrev S1x8192 : Shape := ⟨2, ![1, 8192]⟩
abbrev S49152x2 : Shape := ⟨2, ![49152, 2]⟩

abbrev nBuf : Space → Nat
  | .hbm => 46
  | .vmem => 4
  | .smem => 0
  | _ => 0

abbrev bufTy : (tb : Table) → Fin (tcTables nBuf tb) → BufTy
  | .hbm, ⟨0, _⟩ => ⟨S12x4096x32, .fp8e4m3⟩
  | .hbm, ⟨1, _⟩ => ⟨S12x4096, .f32⟩
  | .hbm, ⟨2, _⟩ => ⟨S8192x32, .fp8e4m3⟩
  | .hbm, ⟨3, _⟩ => ⟨S8192, .f32⟩
  | .hbm, ⟨4, _⟩ => ⟨S12x4096x32, .f32⟩
  | .hbm, ⟨5, _⟩ => ⟨S8192x32, .f32⟩
  | .hbm, ⟨6, _⟩ => ⟨S49152x32, .f32⟩
  | .hbm, ⟨7, _⟩ => ⟨S49152, .f32⟩
  | .hbm, ⟨8, _⟩ => ⟨S49152, .f32⟩
  | .hbm, ⟨9, _⟩ => ⟨S49152x32, .f32⟩
  | .hbm, ⟨10, _⟩ => ⟨S_, .f32⟩
  | .hbm, ⟨11, _⟩ => ⟨S49152, .f32⟩
  | .hbm, ⟨12, _⟩ => ⟨S49152, .f32⟩
  | .hbm, ⟨13, _⟩ => ⟨S8192, .f32⟩
  | .hbm, ⟨14, _⟩ => ⟨S8192x32, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S49152x8192, .f32⟩
  | .hbm, ⟨19, _⟩ => ⟨S49152x1, .f32⟩
  | .hbm, ⟨20, _⟩ => ⟨S1x8192, .f32⟩
  | .hbm, ⟨21, _⟩ => ⟨S49152x8192, .f32⟩
  | .hbm, ⟨22, _⟩ => ⟨S49152x8192, .f32⟩
  | .hbm, ⟨23, _⟩ => ⟨S49152x8192, .f32⟩
  | .hbm, ⟨24, _⟩ => ⟨S49152x1, .f32⟩
  | .hbm, ⟨25, _⟩ => ⟨S1x8192, .f32⟩
  | .hbm, ⟨26, _⟩ => ⟨S49152x8192, .f32⟩
  | .hbm, ⟨27, _⟩ => ⟨S49152x8192, .f32⟩
  | .hbm, ⟨28, _⟩ => ⟨S49152x8192, .f32⟩
  | .hbm, ⟨29, _⟩ => ⟨S_, .f32⟩
  | .hbm, ⟨30, _⟩ => ⟨S49152x8192, .f32⟩
  | .hbm, ⟨31, _⟩ => ⟨S49152x8192, .f32⟩
  | .hbm, ⟨32, _⟩ => ⟨S49152x8192, .f32⟩
  | .hbm, ⟨33, _⟩ => ⟨S49152x8192, .f32⟩
  | .hbm, ⟨34, _⟩ => ⟨S49152x8192, .f32⟩
  | .hbm, ⟨35, _⟩ => ⟨S49152x2, .f32⟩
  | .hbm, ⟨36, _⟩ => ⟨S49152x2, .i32⟩
  | .hbm, ⟨37, _⟩ => ⟨S49152x1, .f32⟩
  | .hbm, ⟨38, _⟩ => ⟨S49152, .f32⟩
  | .hbm, ⟨39, _⟩ => ⟨S49152, .f32⟩
  | .hbm, ⟨40, _⟩ => ⟨S49152x1, .f32⟩
  | .hbm, ⟨41, _⟩ => ⟨S49152, .f32⟩
  | .hbm, ⟨42, _⟩ => ⟨S49152, .f32⟩
  | .hbm, ⟨43, _⟩ => ⟨S12x4096, .f32⟩
  | .hbm, ⟨44, _⟩ => ⟨S49152, .f32⟩
  | .hbm, ⟨45, _⟩ => ⟨S12x4096, .f32⟩
  | .local _ .vmem, ⟨0, _⟩ => ⟨S12x4096x32, .fp8e4m3⟩
  | .local _ .vmem, ⟨1, _⟩ => ⟨S8192x32, .fp8e4m3⟩
  | .local _ .vmem, ⟨2, _⟩ => ⟨S12x4096x32, .f32⟩
  | .local _ .vmem, ⟨3, _⟩ => ⟨S8192x32, .f32⟩
  | _, _ => ⟨S12x4096x32, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_values : Ref sig .tc := ⟨.hbm, 35, rfl⟩
abbrev main_indices : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x4096x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelShared.lean ====
/- What the two cases of the kernel's run share: the branch condition in closed form over the grid's points, the staging and
   scratch memrefs at a point, and the region's invariant with the scratch operands owned at some contents. -/
module

public import proofs.«01_k».proof.Proof.Gen.Kernel.Skeleton
public import proofs.«01_k».proof.Proof.Gen.Kernel.Loops
public import proofs.«01_k».proof.Proof.Gen.Kernel.Frame

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 192 = 0 :=
  (fun t => by
    have ht : t.val < 192 := Nat.lt_of_lt_of_eq t.isLt N_0
    have e0 : (grid0.coords t 0).val = t.val / 1 % 192 := Pipeline.Grid.coords_val t 0 (by decide) rfl
    simp only [cond0_0, k0_cond1, e0]
    word_cmp
   : ∀ t : Fin grid0.N, cond0_0 (grid0.coords t) ↔ t.val % 192 = 0)

/-! ## The kernel body on any staging memrefs: a subtype the run finds -/

/-- One staging buffer of output window 4, through which its contents are stated (`View.read_writes_of_cover`: the
    choice does not matter). -/
abbrev VO0_4 : View sig .tc .vmem S1x1x256 .f32 := (Memref.whole cc0_stg4_0 : Memref sig .tc .vmem S1x1x256 .f32).view
/-- One staging buffer of output window 5, through which its contents are stated (`View.read_writes_of_cover`: the
    choice does not matter). -/
abbrev VO0_5 : View sig .tc .vmem S1x1x256 .f32 := (Memref.whole cc0_stg5_0 : Memref sig .tc .vmem S1x1x256 .f32).view
/-- Each window's current staging memref at point `t`, spelled as the pipeline passes it (`bodyAt0`), and its wholeness. -/
abbrev ms0_0 (t : Fin cfg0.N) : Memref sig .tc .vmem S256x32 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x32 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8192x128 .f32 := Memref.whole cc0_scratch0
/-- And the second. -/
abbrev scM0_1 : Memref sig .tc .vmem S8192x128 .f32 := Memref.whole cc0_scratch1
/-- The scratch `arg7` the kernel carries between points, as a view: what it holds is stated through it. -/
abbrev VS0_0 : View sig .tc .vmem S8192x128 .f32 := scM0_0.view
/-- The scratch `arg8` the kernel carries between points, as a view: what it holds is stated through it. -/
abbrev VS0_1 : View sig .tc .vmem S8192x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelRunA.lean ====
/- The kernel body's run at the first grid point: sixteen trips fill the two scratch buffers, which cover them, so what the
   buffers held before is forgotten; the rest of the body then runs on the filled contents. -/
module

public import proofs.«01_k».proof.Proof.KernelShared

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces that the first point's sixteen trips write into the two scratch buffers, last first. -/
def fillL (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) :
    List (View.Piece (Elt F) S8192x128 .f32) × List (View.Piece (Elt F) S8192x128 .f32) :=
  pb_k0_t1 (F := F) Variants.none c none i arg1 harg1 arg2 harg2 arg3 harg3 arg4 harg4 arg5 harg5 arg6 harg6 arg7 harg7 arg8 harg8 hc0 (harg3.unread x2) (harg4.unread x3) k0_t1_loop.trips

/-- The pieces cover the first scratch buffer. -/
theorem fill_cover0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) (y : S8192x128.Idx) :
    ∃ pc ∈ (fillL c i arg1 harg1 arg2 harg2 arg3 harg3 arg4 harg4 arg5 harg5 arg6 harg6 arg7 harg7 arg8 harg8 hc0 x2 x3).1, y ∈ pc.1.set :=
  View.cover_of_tiledL (fillL c i arg1 harg1 arg2 harg2 arg3 harg3 arg4 harg4 arg5 harg5 arg6 harg6 arg7 harg7 arg8 harg8 hc0 x2 x3).1 S512x128.size (by sl_kernel_rfl) y

/-- The pieces cover the second scratch buffer. -/
theorem fill_cover1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) (y : S8192x128.Idx) :
    ∃ pc ∈ (fillL c i arg1 harg1 arg2 harg2 arg3 harg3 arg4 harg4 arg5 harg5 arg6 harg6 arg7 harg7 arg8 harg8 hc0 x2 x3).2, y ∈ pc.1.set :=
  View.cover_of_tiledL (fillL c i arg1 harg1 arg2 harg2 arg3 harg3 arg4 harg4 arg5 harg5 arg6 harg6 arg7 harg7 arg8 harg8 hc0 x2 x3).2 S512x128.size (by sl_kernel_rfl) y

/-- What the first scratch buffer holds once the sixteen trips have run. -/
def fill0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) : Vec F S8192x128 .f32 :=
  VS0_0.read (Elt F) (VS0_0.writes (Elt F) VS0_0.junk (fillL c i arg1 harg1 arg2 harg2 arg3 harg3 arg4 harg4 arg5 harg5 arg6 harg6 arg7 harg7 arg8 harg8 hc0 x2 x3).1)

/-- What the second scratch buffer holds once the sixteen trips have run. -/
def fill1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) : Vec F S8192x128 .f32 :=
  VS0_1.read (Elt F) (VS0_1.writes (Elt F) VS0_1.junk (fillL c i arg1 harg1 arg2 harg2 arg3 harg3 arg4 harg4 arg5 harg5 arg6 harg6 arg7 harg7 arg8 harg8 hc0 x2 x3).2)

/-- The sixteen trips: from the code words and scales, and the scratch buffers at any contents, they end with the code words
    and scales as they were and the scratch buffers at `fill0`, `fill1`. -/
theorem fill_run (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32)
    (E : Set ℕ) (Φ : PUnit → sProp 𝕄) :
    iprop((arg3.view.loc (c : Thread nD τ) ↦[arg3.view.set]{fullShare} harg3.unread x2) ∗ (arg4.view.loc (c : Thread nD τ) ↦[arg4.view.set]{fullShare} harg4.unread x3)
        ∗ (∃ f, arg7.view.loc (c : Thread nD τ) ↦[arg7.view.set]{fullShare} f) ∗ (∃ f, arg8.view.loc (c : Thread nD τ) ↦[arg8.view.set]{fullShare} f)
        ∗ (iprop((arg3.view.loc (c : Thread nD τ) ↦[arg3.view.set]{fullShare} harg3.unread x2) ∗ (arg4.view.loc (c : Thread nD τ) ↦[arg4.view.set]{fullShare} harg4.unread x3)
          ∗ (arg7.view.loc (c : Thread nD τ) ↦[arg7.view.set]{fullShare} harg7.unread (fill0 c i arg1 harg1 arg2 harg2 arg3 harg3 arg4 harg4 arg5 harg5 arg6 harg6 arg7 harg7 arg8 harg8 hc0 x2 x3))
          ∗ (arg8.view.loc (c : Thread nD τ) ↦[arg8.view.set]{fullShare} harg8.unread (fill1 c i arg1 harg1 arg2 harg2 arg3 harg3 arg4 harg4 arg5 harg5 arg6 harg6 arg7 harg7 arg8 harg8 hc0 x2 x3))) -∗ Φ ⟨⟩))
      ⊢ wp frame (wpE (defs₀ (F := F)) Variants.none c none) E
          (Scf.Loop.for k0_t1_loop (k0_t1_ok i hc0) ⟨⟩ (k0_t1_body i arg1 harg1 arg2 harg2 arg3 harg3 arg4 harg4 arg5 harg5 arg6 harg6 arg7 harg7 arg8 harg8 hc0)) Φ := by
  iintro ⟨H2, H3, ⟨%fs0, HS0⟩, ⟨%fs1, HS1⟩, Hk⟩
  have e0 : arg7.view.writes (Elt F) fs0 (fillL c i arg1 harg1 arg2 harg2 arg3 harg3 arg4 harg4 arg5 harg5 arg6 harg6 arg7 harg7 arg8 harg8 hc0 x2 x3).1 = harg7.unread (fill0 c i arg1 harg1 arg2 harg2 arg3 harg3 arg4 harg4 arg5 harg5 arg6 harg6 arg7 harg7 arg8 harg8 hc0 x2 x3) :=
    harg7.eq_unread (View.read_writes_of_cover _ _ _ _ _ (fill_cover0 c i arg1 harg1 arg2 harg2 arg3 harg3 arg4 harg4 arg5 harg5 arg6 harg6 arg7 harg7 arg8 harg8 hc0 x2 x3))
  have e1 : arg8.view.writes (Elt F) fs1 (fillL c i arg1 harg1 arg2 harg2 arg3 harg3 arg4 harg4 arg5 harg5 arg6 harg6 arg7 harg7 arg8 harg8 hc0 x2 x3).2 = harg8.unread (fill1 c i arg1 harg1 arg2 harg2 arg3 harg3 arg4 harg4 arg5 harg5 arg6 harg6 arg7 harg7 arg8 harg8 hc0 x2 x3) :=
    harg8.eq_unread (View.read_writes_of_cover _ _ _ _ _ (fill_cover1 c i arg1 harg1 arg2 harg2 arg3 harg3 arg4 harg4 arg5 harg5 arg6 harg6 arg7 harg7 arg8 harg8 hc0 x2 x3))
  rw [← e0, ← e1]
  sl_exec
  iapply Hk
  isplitl [H2]; · iexact H2
  isplitl [H3]; · iexact H3
  isplitl [HS0]; · iexact HS0
  iexact HS1

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) :
    Σ' (L4 : List (View.Piece (Elt F) S1x1x256 .f32)), Σ' (L5 : List (View.Piece (Elt F) S1x1x256 .f32)), Σ' (LS0 : List (View.Piece (Elt F) S8192x128 .f32)), { LS1 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, (fillL c i arg1 harg1 arg2 harg2 arg3 harg3 arg4 harg4 arg5 harg5 arg6 harg6 arg7 harg7 arg8 harg8 hc0 x2 x3).1, (fillL c i arg1 harg1 arg2 harg2 arg3 harg3 arg4 harg4 arg5 harg5 arg6 harg6 arg7 harg7 arg8 harg8 hc0 x2 x3).2, fun E K => ?run⟩
  case run =>
    simp only [cc0__body_eq_skeleton]; unfold cc0__body_skel
    simp only [k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    rw [wp_bind]
    unfold k0_part19_skel
    rw [dif_pos hc0]
    rw [wp_bind]
    iapply (fill_run c i arg1 harg1 arg2 harg2 arg3 harg3 arg4 harg4 arg5 harg5 arg6 harg6 arg7 harg7 arg8 harg8 hc0 x2 x3 E _)
    isplitl [H2]; · iexact H2
    isplitl [H3]; · iexact H3
    isplitl [HS0]; · iexists _; iexact HS0
    isplitl [HS1]; · iexists _; iexact HS1
    iintro ⟨H2, H3, HS0, HS1⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists harg7.unread (fill0 c i arg1 harg1 arg2 harg2 arg3 harg3 arg4 harg4 arg5 harg5 arg6 harg6 arg7 harg7 arg8 harg8 hc0 x2 x3)
      rw [show arg7.view.writes (Elt F) (harg7.unread (fill0 c i arg1 harg1 arg2 harg2 arg3 harg3 arg4 harg4 arg5 harg5 arg6 harg6 arg7 harg7 arg8 harg8 hc0 x2 x3)) (fillL c i arg1 harg1 arg2 harg2 arg3 harg3 arg4 harg4 arg5 harg5 arg6 harg6 arg7 harg7 arg8 harg8 hc0 x2 x3).1 = harg7.unread (fill0 c i arg1 harg1 arg2 harg2 arg3 harg3 arg4 harg4 arg5 harg5 arg6 harg6 arg7 harg7 arg8 harg8 hc0 x2 x3) from
        harg7.eq_unread (View.read_writes_of_cover _ _ _ _ _ (fill_cover0 c i arg1 harg1 arg2 harg2 arg3 harg3 arg4 harg4 arg5 harg5 arg6 harg6 arg7 harg7 arg8 harg8 hc0 x2 x3))]
      iexact HS0
    iexists harg8.unread (fill1 c i arg1 harg1 arg2 harg2 arg3 harg3 arg4 harg4 arg5 harg5 arg6 harg6 arg7 harg7 arg8 harg8 hc0 x2 x3)
    rw [show arg8.view.writes (Elt F) (harg8.unread (fill1 c i arg1 harg1 arg2 harg2 arg3 harg3 arg4 harg4 arg5 harg5 arg6 harg6 arg7 harg7 arg8 harg8 hc0 x2 x3)) (fillL c i arg1 harg1 arg2 harg2 arg3 harg3 arg4 harg4 arg5 harg5 arg6 harg6 arg7 harg7 arg8 harg8 hc0 x2 x3).2 = harg8.unread (fill1 c i arg1 harg1 arg2 harg2 arg3 harg3 arg4 harg4 arg5 harg5 arg6 harg6 arg7 harg7 arg8 harg8 hc0 x2 x3) from
      harg8.eq_unread (View.read_writes_of_cover _ _ _ _ _ (fill_cover1 c i arg1 harg1 arg2 harg2 arg3 harg3 arg4 harg4 arg5 harg5 arg6 harg6 arg7 harg7 arg8 harg8 hc0 x2 x3))]
    iexact HS1

end Cert.Kernel.Hand

end
-- ==== Proof.KernelRunB.lean ====
/- The kernel body's run at every grid point but the first: the scratch holds what an earlier point left there. -/
module

public import proofs.«01_k».proof.Proof.KernelShared

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken: points 1, 2, … 191: 191 of 192), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) :
    Σ' (L4 : List (View.Piece (Elt F) S1x1x256 .f32)), Σ' (L5 : List (View.Piece (Elt F) S1x1x256 .f32)), Σ' (LS0 : List (View.Piece (Elt F) S8192x128 .f32)), { LS1 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0 ∗ owns (c : Thread nD τ) arg8 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, [], [], fun E K => ?run⟩
  case run =>
    simp only [cc0__body_eq_skeleton]; unfold cc0__body_skel
    simp only [k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg7.read_unread _
      iexact HS0
    iexists _; isplitr; · ipureintro; exact harg8.read_unread _
    iexact HS1

end Cert.Kernel.Hand

end
-- ==== Proof.KernelFrame.lean ====
/- What the outputs and the two scratch buffers hold after each grid point, the proof data of the pipeline, the body's
   obligation, the run of @main (`run_main`) and the frame claim (`frame`), at any float instance. -/
module

public import proofs.«01_k».proof.Proof.KernelRunA
public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (1 store of `S1x1x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S1x1x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S1x1x256.size (by sl_kernel_rfl) y

/-- What case A leaves in output 4's staging buffer: its pieces read back over junk. -/
def out0_A_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S1x1x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- Case A's pieces for output 5 tile its block (1 store of `S1x1x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S1x1x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S1x1x256.size (by sl_kernel_rfl) y

/-- What case A leaves in output 5's staging buffer: its pieces read back over junk. -/
def out0_A_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S1x1x256 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)

/-- Case A's pieces for scratch `arg7`, which the kernel carries between points, cover it: 16 pieces of `S512x128` tiling it (Lib/Ring.lean `Piece.tiledL`). -/
theorem scover0_A_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S8192x128.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S512x128.size (by sl_kernel_rfl) y

/-- What case A leaves in scratch `arg7`: its pieces read back over junk. -/
def sout0_A_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S8192x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.1)

/-- Case A's pieces for scratch `arg8`, which the kernel carries between points, cover it: 16 pieces of `S512x128` tiling it (Lib/Ring.lean `Piece.tiledL`). -/
theorem scover0_A_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S8192x128.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S512x128.size (by sl_kernel_rfl) y

/-- What case A leaves in scratch `arg8`: its pieces read back over junk. -/
def sout0_A_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S8192x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.2.1)

/-- Case B's pieces for output 4 tile its block (1 store of `S1x1x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) (y : S1x1x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S1x1x256.size (by sl_kernel_rfl) y

/-- What case B leaves in output 4's staging buffer: its pieces read back over junk. -/
def out0_B_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S1x1x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)

/-- Case B's pieces for output 5 tile its block (1 store of `S1x1x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) (y : S1x1x256.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S1x1x256.size (by sl_kernel_rfl) y

/-- What case B leaves in output 5's staging buffer: its pieces read back over junk. -/
def out0_B_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S1x1x256 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0 xs1).2.1)

/-- Case B stores nothing into scratch `arg7`: it holds what the point before left. -/
def sout0_B_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S8192x128 .f32 := xs0

/-- Case B stores nothing into scratch `arg8`: it holds what the point before left. -/
def sout0_B_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S8192x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x256 .f32 × Vec F S1x1x256 .f32 × Vec F S8192x128 .f32 × Vec F S8192x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 192 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 192 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 192 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

/-- Before the first point the invariant asks nothing of the scratch contents. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 192 := lt_of_lt_of_eq t.isLt (show cfg0.N = 192 from N_0)
  by_cases h0 : t.val % 192 = 0
  · by_cases hz : t.val = 0
    · rw [PhiS_castSucc m c t, PhiS_zero m c _ _ hz, PhiA0_eq]
      rw [outsAt0_A m c t h0]
      unfold out0_A_4 out0_A_5 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _)
    · exfalso; have hN : t.val < 192 := lt_of_lt_of_eq t.isLt (show cfg0.N = 192 from N_0); omega
  · by_cases hz : t.val = 0
    · exfalso; have hN : t.val < 192 := lt_of_lt_of_eq t.isLt (show cfg0.N = 192 from N_0); omega
    · rw [PhiS_castSucc m c t, PhiS_pos m c _ _ hz]
      rw [outsAt0_B m c t h0]
      unfold out0_B_4 out0_B_5 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` ; Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdealShared.lean ====
/- What the two cases of the kernel's run share: the branch condition in closed form over the grid's points, the staging and
   scratch memrefs at a point, and the region's invariant with the scratch operands owned at some contents. -/
module

public import proofs.«01_k».proof.Proof.Gen.KernelIdeal.Skeleton
public import proofs.«01_k».proof.Proof.Gen.KernelIdeal.Loops
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 192 = 0 :=
  (fun t => by
    have ht : t.val < 192 := Nat.lt_of_lt_of_eq t.isLt N_0
    have e0 : (grid0.coords t 0).val = t.val / 1 % 192 := Pipeline.Grid.coords_val t 0 (by decide) rfl
    simp only [cond0_0, k0_cond1, e0]
    word_cmp
   : ∀ t : Fin grid0.N, cond0_0 (grid0.coords t) ↔ t.val % 192 = 0)

/-! ## The kernel body on any staging memrefs: a subtype the run finds -/

/-- One staging buffer of output window 4, through which its contents are stated (`View.read_writes_of_cover`: the
    choice does not matter). -/
abbrev VO0_4 : View sig .tc .vmem S1x1x256 .f32 := (Memref.whole cc0_stg4_0 : Memref sig .tc .vmem S1x1x256 .f32).view
/-- One staging buffer of output window 5, through which its contents are stated (`View.read_writes_of_cover`: the
    choice does not matter). -/
abbrev VO0_5 : View sig .tc .vmem S1x1x256 .f32 := (Memref.whole cc0_stg5_0 : Memref sig .tc .vmem S1x1x256 .f32).view
/-- Each window's current staging memref at point `t`, spelled as the pipeline passes it (`bodyAt0`), and its wholeness. -/
abbrev ms0_0 (t : Fin cfg0.N) : Memref sig .tc .vmem S256x32 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x32 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8192x128 .f32 := Memref.whole cc0_scratch0
/-- And the second. -/
abbrev scM0_1 : Memref sig .tc .vmem S8192x128 .f32 := Memref.whole cc0_scratch1
/-- The scratch `arg7` the kernel carries between points, as a view: what it holds is stated through it. -/
abbrev VS0_0 : View sig .tc .vmem S8192x128 .f32 := scM0_0.view
/-- The scratch `arg8` the kernel carries between points, as a view: what it holds is stated through it. -/
abbrev VS0_1 : View sig .tc .vmem S8192x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdealRunA.lean ====
/- The kernel body's run at the first grid point: sixteen trips fill the two scratch buffers, which cover them, so what the
   buffers held before is forgotten; the rest of the body then runs on the filled contents. -/
module

public import proofs.«01_k».proof.Proof.KernelIdealShared

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces that the first point's sixteen trips write into the two scratch buffers, last first. -/
def fillL (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) :
    List (View.Piece (Elt F) S8192x128 .f32) × List (View.Piece (Elt F) S8192x128 .f32) :=
  pb_k0_t1 (F := F) Variants.none c none i arg1 harg1 arg2 harg2 arg3 harg3 arg4 harg4 arg5 harg5 arg6 harg6 arg7 harg7 arg8 harg8 hc0 (harg3.unread x2) (harg4.unread x3) k0_t1_loop.trips

/-- The pieces cover the first scratch buffer. -/
theorem fill_cover0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) (y : S8192x128.Idx) :
    ∃ pc ∈ (fillL c i arg1 harg1 arg2 harg2 arg3 harg3 arg4 harg4 arg5 harg5 arg6 harg6 arg7 harg7 arg8 harg8 hc0 x2 x3).1, y ∈ pc.1.set :=
  View.cover_of_tiledL (fillL c i arg1 harg1 arg2 harg2 arg3 harg3 arg4 harg4 arg5 harg5 arg6 harg6 arg7 harg7 arg8 harg8 hc0 x2 x3).1 S512x128.size (by sl_kernel_rfl) y

/-- The pieces cover the second scratch buffer. -/
theorem fill_cover1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) (y : S8192x128.Idx) :
    ∃ pc ∈ (fillL c i arg1 harg1 arg2 harg2 arg3 harg3 arg4 harg4 arg5 harg5 arg6 harg6 arg7 harg7 arg8 harg8 hc0 x2 x3).2, y ∈ pc.1.set :=
  View.cover_of_tiledL (fillL c i arg1 harg1 arg2 harg2 arg3 harg3 arg4 harg4 arg5 harg5 arg6 harg6 arg7 harg7 arg8 harg8 hc0 x2 x3).2 S512x128.size (by sl_kernel_rfl) y

/-- What the first scratch buffer holds once the sixteen trips have run. -/
def fill0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) : Vec F S8192x128 .f32 :=
  VS0_0.read (Elt F) (VS0_0.writes (Elt F) VS0_0.junk (fillL c i arg1 harg1 arg2 harg2 arg3 harg3 arg4 harg4 arg5 harg5 arg6 harg6 arg7 harg7 arg8 harg8 hc0 x2 x3).1)

/-- What the second scratch buffer holds once the sixteen trips have run. -/
def fill1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32) : Vec F S8192x128 .f32 :=
  VS0_1.read (Elt F) (VS0_1.writes (Elt F) VS0_1.junk (fillL c i arg1 harg1 arg2 harg2 arg3 harg3 arg4 harg4 arg5 harg5 arg6 harg6 arg7 harg7 arg8 harg8 hc0 x2 x3).2)

/-- The sixteen trips: from the code words and scales, and the scratch buffers at any contents, they end with the code words
    and scales as they were and the scratch buffers at `fill0`, `fill1`. -/
theorem fill_run (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x2 : Vec F S8192x32 .fp8e4m3) (x3 : Vec F S8192x1 .f32)
    (E : Set ℕ) (Φ : PUnit → sProp 𝕄) :
    iprop((arg3.view.loc (c : Thread nD τ) ↦[arg3.view.set]{fullShare} harg3.unread x2) ∗ (arg4.view.loc (c : Thread nD τ) ↦[arg4.view.set]{fullShare} harg4.unread x3)
        ∗ (∃ f, arg7.view.loc (c : Thread nD τ) ↦[arg7.view.set]{fullShare} f) ∗ (∃ f, arg8.view.loc (c : Thread nD τ) ↦[arg8.view.set]{fullShare} f)
        ∗ (iprop((arg3.view.loc (c : Thread nD τ) ↦[arg3.view.set]{fullShare} harg3.unread x2) ∗ (arg4.view.loc (c : Thread nD τ) ↦[arg4.view.set]{fullShare} harg4.unread x3)
          ∗ (arg7.view.loc (c : Thread nD τ) ↦[arg7.view.set]{fullShare} harg7.unread (fill0 c i arg1 harg1 arg2 harg2 arg3 harg3 arg4 harg4 arg5 harg5 arg6 harg6 arg7 harg7 arg8 harg8 hc0 x2 x3))
          ∗ (arg8.view.loc (c : Thread nD τ) ↦[arg8.view.set]{fullShare} harg8.unread (fill1 c i arg1 harg1 arg2 harg2 arg3 harg3 arg4 harg4 arg5 harg5 arg6 harg6 arg7 harg7 arg8 harg8 hc0 x2 x3))) -∗ Φ ⟨⟩))
      ⊢ wp frame (wpE (defs₀ (F := F)) Variants.none c none) E
          (Scf.Loop.for k0_t1_loop (k0_t1_ok i hc0) ⟨⟩ (k0_t1_body i arg1 harg1 arg2 harg2 arg3 harg3 arg4 harg4 arg5 harg5 arg6 harg6 arg7 harg7 arg8 harg8 hc0)) Φ := by
  iintro ⟨H2, H3, ⟨%fs0, HS0⟩, ⟨%fs1, HS1⟩, Hk⟩
  have e0 : arg7.view.writes (Elt F) fs0 (fillL c i arg1 harg1 arg2 harg2 arg3 harg3 arg4 harg4 arg5 harg5 arg6 harg6 arg7 harg7 arg8 harg8 hc0 x2 x3).1 = harg7.unread (fill0 c i arg1 harg1 arg2 harg2 arg3 harg3 arg4 harg4 arg5 harg5 arg6 harg6 arg7 harg7 arg8 harg8 hc0 x2 x3) :=
    harg7.eq_unread (View.read_writes_of_cover _ _ _ _ _ (fill_cover0 c i arg1 harg1 arg2 harg2 arg3 harg3 arg4 harg4 arg5 harg5 arg6 harg6 arg7 harg7 arg8 harg8 hc0 x2 x3))
  have e1 : arg8.view.writes (Elt F) fs1 (fillL c i arg1 harg1 arg2 harg2 arg3 harg3 arg4 harg4 arg5 harg5 arg6 harg6 arg7 harg7 arg8 harg8 hc0 x2 x3).2 = harg8.unread (fill1 c i arg1 harg1 arg2 harg2 arg3 harg3 arg4 harg4 arg5 harg5 arg6 harg6 arg7 harg7 arg8 harg8 hc0 x2 x3) :=
    harg8.eq_unread (View.read_writes_of_cover _ _ _ _ _ (fill_cover1 c i arg1 harg1 arg2 harg2 arg3 harg3 arg4 harg4 arg5 harg5 arg6 harg6 arg7 harg7 arg8 harg8 hc0 x2 x3))
  rw [← e0, ← e1]
  sl_exec
  iapply Hk
  isplitl [H2]; · iexact H2
  isplitl [H3]; · iexact H3
  isplitl [HS0]; · iexact HS0
  iexact HS1

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) :
    Σ' (L4 : List (View.Piece (Elt F) S1x1x256 .f32)), Σ' (L5 : List (View.Piece (Elt F) S1x1x256 .f32)), Σ' (LS0 : List (View.Piece (Elt F) S8192x128 .f32)), { LS1 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, (fillL c i arg1 harg1 arg2 harg2 arg3 harg3 arg4 harg4 arg5 harg5 arg6 harg6 arg7 harg7 arg8 harg8 hc0 x2 x3).1, (fillL c i arg1 harg1 arg2 harg2 arg3 harg3 arg4 harg4 arg5 harg5 arg6 harg6 arg7 harg7 arg8 harg8 hc0 x2 x3).2, fun E K => ?run⟩
  case run =>
    simp only [cc0__body_eq_skeleton]; unfold cc0__body_skel
    simp only [k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    rw [wp_bind]
    unfold k0_part19_skel
    rw [dif_pos hc0]
    rw [wp_bind]
    iapply (fill_run c i arg1 harg1 arg2 harg2 arg3 harg3 arg4 harg4 arg5 harg5 arg6 harg6 arg7 harg7 arg8 harg8 hc0 x2 x3 E _)
    isplitl [H2]; · iexact H2
    isplitl [H3]; · iexact H3
    isplitl [HS0]; · iexists _; iexact HS0
    isplitl [HS1]; · iexists _; iexact HS1
    iintro ⟨H2, H3, HS0, HS1⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists harg7.unread (fill0 c i arg1 harg1 arg2 harg2 arg3 harg3 arg4 harg4 arg5 harg5 arg6 harg6 arg7 harg7 arg8 harg8 hc0 x2 x3)
      rw [show arg7.view.writes (Elt F) (harg7.unread (fill0 c i arg1 harg1 arg2 harg2 arg3 harg3 arg4 harg4 arg5 harg5 arg6 harg6 arg7 harg7 arg8 harg8 hc0 x2 x3)) (fillL c i arg1 harg1 arg2 harg2 arg3 harg3 arg4 harg4 arg5 harg5 arg6 harg6 arg7 harg7 arg8 harg8 hc0 x2 x3).1 = harg7.unread (fill0 c i arg1 harg1 arg2 harg2 arg3 harg3 arg4 harg4 arg5 harg5 arg6 harg6 arg7 harg7 arg8 harg8 hc0 x2 x3) from
        harg7.eq_unread (View.read_writes_of_cover _ _ _ _ _ (fill_cover0 c i arg1 harg1 arg2 harg2 arg3 harg3 arg4 harg4 arg5 harg5 arg6 harg6 arg7 harg7 arg8 harg8 hc0 x2 x3))]
      iexact HS0
    iexists harg8.unread (fill1 c i arg1 harg1 arg2 harg2 arg3 harg3 arg4 harg4 arg5 harg5 arg6 harg6 arg7 harg7 arg8 harg8 hc0 x2 x3)
    rw [show arg8.view.writes (Elt F) (harg8.unread (fill1 c i arg1 harg1 arg2 harg2 arg3 harg3 arg4 harg4 arg5 harg5 arg6 harg6 arg7 harg7 arg8 harg8 hc0 x2 x3)) (fillL c i arg1 harg1 arg2 harg2 arg3 harg3 arg4 harg4 arg5 harg5 arg6 harg6 arg7 harg7 arg8 harg8 hc0 x2 x3).2 = harg8.unread (fill1 c i arg1 harg1 arg2 harg2 arg3 harg3 arg4 harg4 arg5 harg5 arg6 harg6 arg7 harg7 arg8 harg8 hc0 x2 x3) from
      harg8.eq_unread (View.read_writes_of_cover _ _ _ _ _ (fill_cover1 c i arg1 harg1 arg2 harg2 arg3 harg3 arg4 harg4 arg5 harg5 arg6 harg6 arg7 harg7 arg8 harg8 hc0 x2 x3))]
    iexact HS1

end Cert.KernelIdeal.Hand

end
-- ==== Proof.KernelIdealRunB.lean ====
/- The kernel body's run at every grid point but the first: the scratch holds what an earlier point left there. -/
module

public import proofs.«01_k».proof.Proof.KernelIdealShared

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken: points 1, 2, … 191: 191 of 192), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) :
    Σ' (L4 : List (View.Piece (Elt F) S1x1x256 .f32)), Σ' (L5 : List (View.Piece (Elt F) S1x1x256 .f32)), Σ' (LS0 : List (View.Piece (Elt F) S8192x128 .f32)), { LS1 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0 ∗ owns (c : Thread nD τ) arg8 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, [], [], fun E K => ?run⟩
  case run =>
    simp only [cc0__body_eq_skeleton]; unfold cc0__body_skel
    simp only [k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg7.read_unread _
      iexact HS0
    iexists _; isplitr; · ipureintro; exact harg8.read_unread _
    iexact HS1

end Cert.KernelIdeal.Hand

end
-- ==== Proof.KernelIdealFrame.lean ====
/- What the outputs and the two scratch buffers hold after each grid point, the proof data of the pipeline, the body's
   obligation, the run of @main (`run_main`) and the frame claim (`frame`), at any float instance. -/
module

public import proofs.«01_k».proof.Proof.KernelIdealRunA
public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (1 store of `S1x1x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S1x1x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S1x1x256.size (by sl_kernel_rfl) y

/-- What case A leaves in output 4's staging buffer: its pieces read back over junk. -/
def out0_A_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S1x1x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- Case A's pieces for output 5 tile its block (1 store of `S1x1x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S1x1x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S1x1x256.size (by sl_kernel_rfl) y

/-- What case A leaves in output 5's staging buffer: its pieces read back over junk. -/
def out0_A_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S1x1x256 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)

/-- Case A's pieces for scratch `arg7`, which the kernel carries between points, cover it: 16 pieces of `S512x128` tiling it (Lib/Ring.lean `Piece.tiledL`). -/
theorem scover0_A_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S8192x128.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S512x128.size (by sl_kernel_rfl) y

/-- What case A leaves in scratch `arg7`: its pieces read back over junk. -/
def sout0_A_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S8192x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.1)

/-- Case A's pieces for scratch `arg8`, which the kernel carries between points, cover it: 16 pieces of `S512x128` tiling it (Lib/Ring.lean `Piece.tiledL`). -/
theorem scover0_A_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) (y : S8192x128.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S512x128.size (by sl_kernel_rfl) y

/-- What case A leaves in scratch `arg8`: its pieces read back over junk. -/
def sout0_A_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i)
    (x0 : Vec F S256x32 .fp8e4m3) (x1 : Vec F S1x1x256 .f32) (x2 : Vec F S8192x32 .fp8e4m3) (x3 : Vec F S8192x1 .f32) : Vec F S8192x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.2.1)

/-- Case B's pieces for output 4 tile its block (1 store of `S1x1x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) (y : S1x1x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S1x1x256.size (by sl_kernel_rfl) y

/-- What case B leaves in output 4's staging buffer: its pieces read back over junk. -/
def out0_B_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S1x1x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)

/-- Case B's pieces for output 5 tile its block (1 store of `S1x1x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) (y : S1x1x256.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S1x1x256.size (by sl_kernel_rfl) y

/-- What case B leaves in output 5's staging buffer: its pieces read back over junk. -/
def out0_B_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S1x1x256 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0 xs1).2.1)

/-- Case B stores nothing into scratch `arg7`: it holds what the point before left. -/
def sout0_B_0 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S8192x128 .f32 := xs0

/-- Case B stores nothing into scratch `arg8`: it holds what the point before left. -/
def sout0_B_1 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i)
    (x0 : Vec F S256x32 .fp8e4m3) (x1 : Vec F S1x1x256 .f32) (x2 : Vec F S8192x32 .fp8e4m3) (x3 : Vec F S8192x1 .f32) (xs0 : Vec F S8192x128 .f32) (xs1 : Vec F S8192x128 .f32) : Vec F S8192x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x256 .f32 × Vec F S1x1x256 .f32 × Vec F S8192x128 .f32 × Vec F S8192x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 192 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 192 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 192 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

/-- Before the first point the invariant asks nothing of the scratch contents. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 192 := lt_of_lt_of_eq t.isLt (show cfg0.N = 192 from N_0)
  by_cases h0 : t.val % 192 = 0
  · by_cases hz : t.val = 0
    · rw [PhiS_castSucc m c t, PhiS_zero m c _ _ hz, PhiA0_eq]
      rw [outsAt0_A m c t h0]
      unfold out0_A_4 out0_A_5 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _)
    · exfalso; have hN : t.val < 192 := lt_of_lt_of_eq t.isLt (show cfg0.N = 192 from N_0); omega
  · by_cases hz : t.val = 0
    · exfalso; have hN : t.val < 192 := lt_of_lt_of_eq t.isLt (show cfg0.N = 192 from N_0); omega
    · rw [PhiS_castSucc m c t, PhiS_pos m c _ _ hz]
      rw [outsAt0_B m c t h0]
      unfold out0_B_4 out0_B_5 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` ; Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.TwoMin.lean ====
/- The two smallest values of a family over a finite set of numbers: how they change when the set grows,
   how two disjoint sets' pairs merge, and what they are when the two smallest members are known. -/
module

public import Mathlib.Data.Finset.Lattice.Prod
public import Mathlib.Data.Finset.Prod
public import Mathlib.Data.EReal.Operations

@[expose] public section

namespace Cert.TwoMin

/-- The smallest value of `f` on `s` (the greatest number when `s` is empty). -/
noncomputable def least (s : Finset ℕ) (f : ℕ → EReal) : EReal := s.inf f

/-- The second smallest value of `f` on `s`, with multiplicity: the smallest "larger of two" over the pairs of
    different members (the greatest number when `s` has fewer than two). -/
noncomputable def second (s : Finset ℕ) (f : ℕ → EReal) : EReal := s.offDiag.inf fun p => f p.1 ⊔ f p.2

/-- Over no member the smallest value is the greatest number, -/
theorem least_empty (f : ℕ → EReal) : least ∅ f = ⊤ := by simp [least]

/-- and so is the second smallest. -/
theorem second_empty (f : ℕ → EReal) : second ∅ f = ⊤ := by simp [second]

/-- The smallest value over a union is the smaller of the two. -/
theorem least_union (s t : Finset ℕ) (f : ℕ → EReal) : least (s ∪ t) f = least s f ⊓ least t f := by
  simp [least, Finset.inf_union]

/-- The second smallest value over a disjoint union. -/
theorem second_union (s t : Finset ℕ) (h : Disjoint s t) (f : ℕ → EReal) :
    second (s ∪ t) f = (least s f ⊔ least t f) ⊓ (second s f ⊓ second t f) := by
  have hst : (s ×ˢ t).inf (fun p => f p.1 ⊔ f p.2) = least s f ⊔ least t f := (Finset.inf_sup_inf s t f f).symm
  have hts : (t ×ˢ s).inf (fun p => f p.1 ⊔ f p.2) = least t f ⊔ least s f := (Finset.inf_sup_inf t s f f).symm
  unfold second
  rw [Finset.offDiag_union h, Finset.inf_union, Finset.inf_union, Finset.inf_union, hst, hts, sup_comm (least t f)]
  rw [inf_assoc, inf_idem, inf_comm]

/-- One more member: the smallest value. -/
theorem least_insert (s : Finset ℕ) (a : ℕ) (f : ℕ → EReal) : least (insert a s) f = least s f ⊓ f a := by
  simp [least, inf_comm]

/-- One more member: the second smallest value. -/
theorem second_insert (s : Finset ℕ) (a : ℕ) (h : a ∉ s) (f : ℕ → EReal) :
    second (insert a s) f = second s f ⊓ (least s f ⊔ f a) := by
  have : insert a s = s ∪ {a} := by rw [Finset.union_comm]; rfl
  rw [this, second_union s {a} (by simpa using h)]
  simp [least, second, inf_comm]

/-- When `p` holds the smallest value and `q ≠ p` the smallest of the others, a monotone map takes the smallest and
    the second smallest value to its values there. -/
theorem map_pair (φ : EReal → EReal) (hφ : Monotone φ) (s : Finset ℕ) (f : ℕ → EReal) (p q : ℕ) (hp : p ∈ s) (hq : q ∈ s)
    (hpq : p ≠ q) (h1 : φ (f p) ≤ φ (f q)) (h2 : ∀ r ∈ s, r ≠ p → r ≠ q → φ (f q) ≤ φ (f r)) :
    φ (least s f) = φ (f p) ∧ φ (second s f) = φ (f q) := by
  have hp' : ∀ r ∈ s, φ (f p) ≤ φ (f r) := fun r hr => by
    by_cases hrp : r = p
    · rw [hrp]
    · by_cases hrq : r = q
      · rw [hrq]; exact h1
      · exact h1.trans (h2 r hr hrp hrq)
  have hq' : ∀ r ∈ s, r ≠ p → φ (f q) ≤ φ (f r) := fun r hr hrp => by
    by_cases hrq : r = q
    · rw [hrq]
    · exact h2 r hr hrp hrq
  constructor
  · apply le_antisymm
    · exact hφ (Finset.inf_le hp)
    · obtain ⟨r, hr, he⟩ := Finset.exists_mem_eq_inf s ⟨p, hp⟩ f
      rw [show least s f = f r from he]; exact hp' r hr
  · apply le_antisymm
    · refine (hφ (Finset.inf_le (b := (p, q)) (by simp [hp, hq, hpq]))).trans ?_
      simp only [hφ.map_sup]; exact sup_le h1 le_rfl
    · obtain ⟨⟨a, b⟩, hr, he⟩ := Finset.exists_mem_eq_inf s.offDiag ⟨(p, q), by simp [hp, hq, hpq]⟩ (fun x => f x.1 ⊔ f x.2)
      rw [show second s f = f a ⊔ f b from he, hφ.map_sup]
      obtain ⟨ha, hb, hab⟩ := Finset.mem_offDiag.mp hr
      by_cases hap : a = p
      · exact le_sup_of_le_right (hq' b hb fun e => hab (hap.trans e.symm))
      · exact le_sup_of_le_left (hq' a ha hap)

end Cert.TwoMin

end
-- ==== Proof.Trip.lean ====
/- What one trip of the search's loop yields: 64 row groups of 8 codes, each taken in by the same step. -/
module

public import proofs.«01_k».proof.Proof.KernelIdealShared

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row group `r` of the product of a chunk's codes with a tile's tokens lies inside the product. -/
theorem dotRows_fits (r : Fin 64) : S512x256.Slices ![8 * r.val, 0] S8x256 := by
  revert r; decide

/-- One step of the search: the group's eight rows of distances (without the token's own term). -/
def groupDist (D : FVec F S512x256 .f32) (st : FVec F S8x256 .f32) (cn s2 : Vec F S8x128 .f32) (r : Fin 64) : FVec F S8x256 .f32 :=
  subf (concatenate S8x256 1 [⟨S8x128, cn⟩, ⟨S8x128, cn⟩] concatenates_S8x128_S8x128_S8x256_d1)
    (mulf (mulf (extractStridedSlice S8x256 ![8 * r.val, 0] D (dotRows_fits r))
      (concatenate S8x256 1 [⟨S8x128, s2⟩, ⟨S8x128, s2⟩] concatenates_S8x128_S8x128_S8x256_d1)) st)

/-- The carried pair (smallest, second smallest) after taking in one more candidate. -/
def pairStep (v : FVec F S8x256 .f32) (p : FVec F S8x256 .f32 × FVec F S8x256 .f32) : FVec F S8x256 .f32 × FVec F S8x256 .f32 :=
  (minimumf p.1 v, minimumf p.2 (maximumf p.1 v))

/-- The pair after the first `n` of a family of candidates. -/
def pairFold (v : ℕ → FVec F S8x256 .f32) (p : FVec F S8x256 .f32 × FVec F S8x256 .f32) : ℕ → FVec F S8x256 .f32 × FVec F S8x256 .f32
  | 0 => p
  | n + 1 => pairStep (v n) (pairFold v p n)

/-- A step's number as one of the 64 row groups of a trip. -/
def rowFin (n : ℕ) : Fin 64 := ⟨n % 64, Nat.mod_lt _ (by decide)⟩

/-- The rows of a scratch array that group `r` of trip `k` reads. -/
def rowsAt (a : Memref sig .tc .vmem S8192x128 .f32) (X : BufTy.Contents (Elt F) a.view.ty) (k : Fin k0_t2_loop.trips) (r : Fin 64) : Vec F S8x128 .f32 :=
  View.readAt (Elt F) a.view (Rect.unit (s := S8192x128) (k0_off5 k (BitVec.ofNat 32 (8 * r.val))) S8x128.size (k0_off5_inb k r)).toLoadRect X

set_option maxHeartbeats 4000000 in
/-- One trip of the search: the pair after its 64 row groups. -/
theorem trip_eq (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (v3 : Vec F S256x32 .fp8e4m3) (v6 : Vec F S1x1x256 .f32) (X3 : BufTy.Contents (Elt F) arg3.view.ty) (X7 : BufTy.Contents (Elt F) arg7.view.ty) (X8 : BufTy.Contents (Elt F) arg8.view.ty) (k : Fin k0_t2_loop.trips) (acc : FVec F S8x256 .f32 × FVec F S8x256 .f32) :
  (trip_k0_t2 (F := F) Variants.none c none i arg1 harg1 arg2 harg2 arg3 harg3 arg4 harg4 arg5 harg5 arg6 harg6 arg7 harg7 arg8 harg8 v3 v6 X3 X7 X8 k).1 acc =
   pairFold (fun n => groupDist (k0_pay10 (k0_pay172 v3) (View.readAt (Elt F) arg3.view (Rect.unit (s := S8192x32) (k0_off4 k) S512x32.size (k0_off4_inb k)).toLoadRect X3)) (k0_pay175 v6) (rowsAt arg7 X7 k (rowFin n)) (rowsAt arg8 X8 k (rowFin n)) (rowFin n)) acc 64 := by
  unfold trip_k0_t2
  dsimp only
  sl_unfold_words
  rfl

end Cert.KernelIdeal.Hand
end
-- ==== Proof.Search.lean ====
/- The search over the codebook: after each trip of its loop the two carried rows hold, lane by lane, the two smallest
   distances among the codes already met. -/
module

public import proofs.«01_k».proof.Proof.TwoMin
public import proofs.«01_k».proof.Proof.Trip
public import Idealize.ShloMosaic.Lib.MatmulPlain
public import Idealize.ShloMosaic.Lib.Pointwise.Tactic
public import Idealize.ShloMosaic.Lib.ValueIdx
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Group `r` of trip `k` reads the scratch arrays from row `512 k + 8 r` on. -/
theorem off5_eq (k : Fin k0_t2_loop.trips) (r : Fin 64) : k0_off5 k (BitVec.ofNat 32 (8 * r.val)) = ![512 * k.val + 8 * r.val, 0] := by
  revert k r; decide +kernel

/-- Trip `k` reads the codebook from row `512 k` on. -/
theorem off4_eq (k : Fin k0_t2_loop.trips) : k0_off4 k = ![512 * k.val, 0] := by
  revert k; decide +kernel

/-- The row group `r` of trip `k` reads the scratch's rows from `512k + 8r`. -/
theorem rowsAt_apply (a : Memref sig .tc .vmem S8192x128 .f32) (ha : a.IsWhole) (Y : Vec Ideal S8192x128 .f32) (k : Fin k0_t2_loop.trips) (r : Fin 64)
    (s : Fin 8) (l : Fin 128) (n : Fin 8192) (hn : n.val = 512 * k.val + 8 * r.val + s.val) :
    rowsAt (F := Ideal) a (ha.unread Y) k r (ix2 s l) = Y (ix2 n l) := by
  unfold rowsAt
  rw [View.readAt_eq_ld, ha.read_unread]
  have h := off5_eq k r
  refine congrArg Y (funext fun b => Fin.ext ?_)
  match b with
  | ⟨0, _⟩ => show (k0_off5 k (BitVec.ofNat 32 (8 * r.val))) 0 + 1 * s.val = _; rw [h]; simp [ix2, hn]
  | ⟨1, _⟩ => show (k0_off5 k (BitVec.ofNat 32 (8 * r.val))) 1 + 1 * l.val = _; rw [h]; simp [ix2]

/-- The product of a chunk of codes with a tile of tokens. -/
theorem dot_apply (x : Vec Ideal S256x32 .fp8e4m3) (w : Vec Ideal S512x32 .fp8e4m3) (i : Fin 512) (j : Fin 256) :
    k0_pay10 (F := Ideal) (k0_pay172 x) w (ix2 i j) = ∑ d : Fin 32, (w (ix2 i d) : EReal) * x (ix2 j d) := by
  unfold k0_pay10 k0_pay172
  dsimp only
  rw [shapeCast_self]
  refine (Ideal.matmul_transposedRhs_apply (M := 512) (K := 32) (N := 256) none w x _ i j).trans ?_
  show FloatOps.ofBits (F := Ideal) FTy.f32 0#32 + _ = _
  rw [show (FloatOps.ofBits (F := Ideal) FTy.f32 0#32 : EReal) = 0 from by simp [Ideal.ofBits, Ideal.ieee, -EReal.coe_mul], zero_add]
  rfl

/-- The tile's scales, one row for all eight sublanes. -/
theorem scale_apply (xs : Vec Ideal S1x1x256 .f32) (s : Fin 8) (j : Fin 256) :
    k0_pay175 (F := Ideal) xs (ix2 s j) = xs (ix3 0 0 j) := by
  unfold k0_pay175 k0_pay173
  dsimp only
  rw [shapeCast_self]
  refine (broadcastTo_apply _ _ _ (ix2 0 j) fun b => ?_).trans ?_
  · match b with
    | ⟨0, _⟩ => rfl
    | ⟨1, _⟩ => rfl
  · refine shapeCast_apply xs _ _ _ ?_
    rw [Shape.rowMajor_val_two, Shape.rowMajor_val_three]
    rfl

/-- The distances of a group, at a row and a lane. -/
theorem groupDist_apply (D : FVec Ideal S512x256 .f32) (st : FVec Ideal S8x256 .f32) (cn s2 : Vec Ideal S8x128 .f32) (r : Fin 64) (s : Fin 8) (j : Fin 256)
    (l : Fin 128) (hl : l.val = j.val % 128) (i : Fin 512) (hi : i.val = 8 * r.val + s.val) :
    groupDist (F := Ideal) D st cn s2 r (ix2 s j) = (cn (ix2 s l) : EReal) - (D (ix2 i j) * s2 (ix2 s l)) * st (ix2 s j) := by
  have hc : ∀ x : Vec Ideal S8x128 .f32, concatenate S8x256 1 [⟨S8x128, x⟩, ⟨S8x128, x⟩] concatenates_S8x128_S8x128_S8x256_d1 (ix2 s j) = x (ix2 s l) := by
    intro x
    by_cases h : j.val < 128
    · refine concatenate_pair_apply_left 1 x x _ (ix2 s j) rfl (ix2 s l) fun b => ?_
      match b with
      | ⟨0, _⟩ => rfl
      | ⟨1, _⟩ => show l.val = j.val; omega
    · refine concatenate_pair_apply_right 1 x x _ (ix2 s j) rfl rfl (ix2 s l) (fun b hb => ?_) ?_
      · match b with
        | ⟨0, _⟩ => rfl
        | ⟨1, _⟩ => exact absurd rfl hb
      · show l.val + 128 = j.val; have := j.isLt; omega
  have hs : extractStridedSlice S8x256 ![8 * r.val, 0] D (dotRows_fits r) (ix2 s j) = D (ix2 i j) := by
    refine extractStridedSlice_apply _ D _ _ _ fun b => ?_
    match b with
    | ⟨0, _⟩ => exact hi
    | ⟨1, _⟩ => show j.val = 0 + j.val; omega
  unfold groupDist
  simp only [ValueIdx.subf_apply, ValueIdx.mulf_apply, hc, hs]

/-- A code's number, wrapped into the codebook's 8192 rows. -/
def codeRow (n : ℕ) : Fin 8192 := ⟨n % 8192, Nat.mod_lt _ (by decide)⟩

/-- A token's lane among the scratch arrays' 128. -/
def laneOf (j : Fin 256) : Fin 128 := ⟨j.val % 128, Nat.mod_lt _ (by decide)⟩

/-- The distance of token `j` of a tile to code `n`, without the token's own term: the code's term less the product. -/
def dist (x : Vec Ideal S256x32 .fp8e4m3) (xs : Vec Ideal S1x1x256 .f32) (cb : Vec Ideal S8192x32 .fp8e4m3) (cn s2 : Vec Ideal S8192x128 .f32)
    (j : Fin 256) (n : ℕ) : EReal :=
  (cn (ix2 (codeRow n) (laneOf j)) : EReal)
    - ((∑ d : Fin 32, (cb (ix2 (codeRow n) d) : EReal) * x (ix2 j d)) * s2 (ix2 (codeRow n) (laneOf j))) * xs (ix3 0 0 j)

/-- The codes sublane `s` has met after `q` row groups: `s`, `8 + s`, ..., `8(q-1) + s`. -/
def rows (q s : ℕ) : Finset ℕ := (Finset.range q).image fun i => 8 * i + s

/-- No group, no code. -/
theorem rows_zero (s : ℕ) : rows 0 s = ∅ := by simp [rows]

/-- One more group adds one code to each row. -/
theorem rows_succ (q s : ℕ) : rows (q + 1) s = insert (8 * q + s) (rows q s) := by
  simp [rows, Finset.range_add_one]

/-- And that code is new. -/
theorem not_mem_rows (q s : ℕ) : 8 * q + s ∉ rows q s := by
  simp only [rows, Finset.mem_image, Finset.mem_range, not_exists]
  intro i h; omega

/-- A run of steps takes the two smallest of the codes met so far to the two smallest with the run's codes added. -/
theorem pairFold_apply (v : ℕ → FVec Ideal S8x256 .f32) (p : FVec Ideal S8x256 .f32 × FVec Ideal S8x256 .f32) (f : ℕ → EReal) (s : Fin 8) (j : Fin 256) (q : ℕ)
    (h1 : p.1 (ix2 s j) = TwoMin.least (rows q s) f) (h2 : p.2 (ix2 s j) = TwoMin.second (rows q s) f) (n : ℕ)
    (hv : ∀ i < n, v i (ix2 s j) = f (8 * (q + i) + s)) :
    (pairFold v p n).1 (ix2 s j) = TwoMin.least (rows (q + n) s) f ∧ (pairFold v p n).2 (ix2 s j) = TwoMin.second (rows (q + n) s) f := by
  induction n with
  | zero => exact ⟨h1, h2⟩
  | succ n ih =>
    obtain ⟨i1, i2⟩ := ih fun i hi => hv i (Nat.lt_succ_of_lt hi)
    have hn := hv n (Nat.lt_succ_self n)
    constructor
    · show min ((pairFold v p n).1 (ix2 s j)) (v n (ix2 s j)) = _
      rw [i1, hn, ← Nat.add_assoc, rows_succ, TwoMin.least_insert]
    · show min ((pairFold v p n).2 (ix2 s j)) (max ((pairFold v p n).1 (ix2 s j)) (v n (ix2 s j))) = _
      rw [i1, i2, hn, ← Nat.add_assoc, rows_succ, TwoMin.second_insert _ _ (not_mem_rows _ _)]

/-- The search's carried pair before trip `k`: at sublane `s`, the two smallest distances over the codes met in the
    trips before. -/
theorem search_state (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (x : Vec Ideal S256x32 .fp8e4m3) (xs : Vec Ideal S1x1x256 .f32) (cb : Vec Ideal S8192x32 .fp8e4m3) (cn s2 : Vec Ideal S8192x128 .f32)
    (init : FVec Ideal S8x256 .f32 × FVec Ideal S8x256 .f32) (hi : ∀ y, init.1 y = (⊤ : EReal) ∧ init.2 y = (⊤ : EReal)) (s : Fin 8) (j : Fin 256) (k : ℕ) (hk : k ≤ 16) :
    (st_k0_t2 (F := Ideal) Variants.none c none i arg1 harg1 arg2 harg2 arg3 harg3 arg4 harg4 arg5 harg5 arg6 harg6 arg7 harg7 arg8 harg8 x xs (harg3.unread cb) (harg7.unread cn) (harg8.unread s2) init k).1 (ix2 s j)
        = TwoMin.least (rows (64 * k) s) (dist x xs cb cn s2 j)
      ∧ (st_k0_t2 (F := Ideal) Variants.none c none i arg1 harg1 arg2 harg2 arg3 harg3 arg4 harg4 arg5 harg5 arg6 harg6 arg7 harg7 arg8 harg8 x xs (harg3.unread cb) (harg7.unread cn) (harg8.unread s2) init k).2 (ix2 s j)
        = TwoMin.second (rows (64 * k) s) (dist x xs cb cn s2 j) := by
  induction k with
  | zero =>
    rw [st_k0_t2_zero]
    simp only [Nat.mul_zero, rows_zero, TwoMin.least_empty, TwoMin.second_empty]
    exact hi _
  | succ k ih =>
    obtain ⟨i1, i2⟩ := ih (Nat.le_of_succ_le hk)
    have ht : k < k0_t2_loop.trips := by rw [show k0_t2_loop.trips = 16 from by decide +kernel]; omega
    have hs := st_k0_t2_succ (F := Ideal) Variants.none c none i arg1 harg1 arg2 harg2 arg3 harg3 arg4 harg4 arg5 harg5 arg6 harg6 arg7 harg7 arg8 harg8 x xs (harg3.unread cb) (harg7.unread cn) (harg8.unread s2) init ⟨k, ht⟩
    simp only [] at hs
    rw [hs]
    unfold tripR_k0_t2
    rw [trip_eq]
    rw [show 64 * (k + 1) = 64 * k + 64 from by omega]
    refine pairFold_apply _ _ _ s j _ i1 i2 64 fun r hr => ?_
    have hsv := s.isLt
    have hmod : r % 64 = r := Nat.mod_eq_of_lt hr
    have hrow : (codeRow (8 * (64 * k + r) + s)).val = 512 * k + 8 * (rowFin r).val + s.val := by
      show (8 * (64 * k + r) + s.val) % 8192 = 512 * k + 8 * (r % 64) + s.val
      rw [hmod]; omega
    rw [groupDist_apply _ _ _ _ (rowFin r) s j (laneOf j) rfl ⟨8 * (rowFin r).val + s.val, by have := (rowFin r).isLt; omega⟩ rfl,
      rowsAt_apply _ harg7 cn ⟨k, ht⟩ (rowFin r) s (laneOf j) _ hrow, rowsAt_apply _ harg8 s2 ⟨k, ht⟩ (rowFin r) s (laneOf j) _ hrow,
      dot_apply, scale_apply]
    unfold dist
    refine congrArg (fun z : EReal => _ - (z * _) * _) (Finset.sum_congr rfl fun d _ => congrArg (· * _) ?_)
    rw [View.readAt_eq_ld, harg3.read_unread]
    refine congrArg cb (funext fun b => Fin.ext ?_)
    have h4 := off4_eq ⟨k, ht⟩
    match b with
    | ⟨0, _⟩ => show (k0_off4 ⟨k, ht⟩) 0 + 1 * (8 * (rowFin r).val + s.val) = (codeRow (8 * (64 * k + r) + s)).val; rw [h4, hrow]; simp; omega
    | ⟨1, _⟩ => show (k0_off4 ⟨k, ht⟩) 1 + 1 * d.val = d.val; rw [h4]; simp

end Cert.KernelIdeal.Hand
end
-- ==== Proof.Merge.lean ====
/- The last step of a tile: the eight sublanes' pairs merged into one, the token's own term added. -/
module

public import proofs.«01_k».proof.Proof.Search

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Codes met by the sublanes `0` to `r`. -/
def rowsUpTo : ℕ → Finset ℕ
  | 0 => rows 1024 0
  | r + 1 => rowsUpTo r ∪ rows 1024 (r + 1)

/-- The codes of row `s` of the first `q` groups. -/
theorem mem_rows {q s n : ℕ} : n ∈ rows q s ↔ ∃ i < q, 8 * i + s = n := by
  simp [rows]

/-- The codes of the rows up to `r`. -/
theorem mem_rowsUpTo {r n : ℕ} (hr : r < 8) : n ∈ rowsUpTo r ↔ n < 8192 ∧ n % 8 ≤ r := by
  induction r with
  | zero =>
    rw [rowsUpTo, mem_rows]
    exact ⟨fun ⟨i, hi, h⟩ => by omega, fun ⟨h1, h2⟩ => ⟨n / 8, by omega, by omega⟩⟩
  | succ r ih =>
    rw [rowsUpTo, Finset.mem_union, ih (by omega), mem_rows]
    constructor
    · rintro (⟨h1, h2⟩ | ⟨i, hi, h⟩) <;> omega
    · rintro ⟨h1, h2⟩
      by_cases h : n % 8 ≤ r
      · exact Or.inl ⟨h1, h⟩
      · exact Or.inr ⟨n / 8, by omega, by omega⟩

/-- All eight sublanes have met all 8192 codes. -/
theorem rowsUpTo_seven : rowsUpTo 7 = Finset.range 8192 := by
  ext n; rw [mem_rowsUpTo (by decide), Finset.mem_range]; omega

/-- The next row's codes are none of those. -/
theorem disjoint_rowsUpTo {r : ℕ} (hr : r + 1 < 8) : Disjoint (rowsUpTo r) (rows 1024 (r + 1)) := by
  rw [Finset.disjoint_left]
  intro n h h'
  rw [mem_rowsUpTo (by omega)] at h
  obtain ⟨i, hi, e⟩ := mem_rows.mp h'
  omega

/-- The merge of the sublanes' pairs, sublane by sublane. -/
def mergeUpTo (A B : ℕ → EReal) : ℕ → EReal × EReal
  | 0 => (A 0, B 0)
  | r + 1 => (min (mergeUpTo A B r).1 (A (r + 1)),
      min (max (mergeUpTo A B r).1 (A (r + 1))) (min (mergeUpTo A B r).2 (B (r + 1))))

/-- When each sublane holds the two smallest of its codes, the merge holds the two smallest of all codes. -/
theorem merge_eq (A B : ℕ → EReal) (f : ℕ → EReal) (hA : ∀ s < 8, A s = TwoMin.least (rows 1024 s) f) (hB : ∀ s < 8, B s = TwoMin.second (rows 1024 s) f)
    (r : ℕ) (hr : r < 8) : mergeUpTo A B r = (TwoMin.least (rowsUpTo r) f, TwoMin.second (rowsUpTo r) f) := by
  induction r with
  | zero => rw [mergeUpTo, hA 0 hr, hB 0 hr]; rfl
  | succ r ih =>
    rw [mergeUpTo, ih (by omega), hA _ hr, hB _ hr, rowsUpTo, TwoMin.least_union, TwoMin.second_union _ _ (disjoint_rowsUpTo hr)]

/-- A row of an 8-row array, sliced out. -/
theorem slice_row (s : ℕ) (hs : s < 8) (a : FVec Ideal S8x256 .f32) (h : S8x256.Slices ![s, 0] S1x256) (j : Fin 256) :
    extractStridedSlice S1x256 ![s, 0] a h (ix2 0 j) = a (ix2 ⟨s, hs⟩ j) := by
  refine extractStridedSlice_apply _ a _ _ _ fun b => ?_
  match b with
  | ⟨0, _⟩ => rfl
  | ⟨1, _⟩ => show j.val = 0 + j.val; omega

/-- Dropping a one-row array's leading axis back in. -/
theorem row_cast (v : FVec Ideal S1x256 .f32) (j : Fin 256) : shapeCast S1x1x256 v shapeCasts_S1x256_S1x1x256 (ix3 0 0 j) = v (ix2 0 j) := by
  refine shapeCast_apply v _ _ _ ?_
  rw [Shape.rowMajor_val_two, Shape.rowMajor_val_three]
  rfl

/-- Sublane `s` of an array's column `j`. -/
def col (a : FVec Ideal S8x256 .f32) (j : Fin 256) (s : ℕ) : EReal := if h : s < 8 then a (ix2 ⟨s, h⟩ j) else 0

/-- The first output's store: the token's own term plus the smallest. -/
theorem pay8_apply (v13 : FVec Ideal S1x256 .f32) (a b : FVec Ideal S8x256 .f32) (j : Fin 256) :
    k0_pay8 (F := Ideal) v13 a (k0_pay186 a) (k0_pay187 a) (ix3 0 0 j) = (v13 (ix2 0 j) : EReal) + (mergeUpTo (col a j) (col b j) 7).1 := by
  unfold k0_pay8 k0_pay7 k0_pay6 k0_pay5 k0_pay4 k0_pay3 k0_pay2 k0_pay1 k0_pay187 k0_pay186 k0_pay185 k0_pay184 k0_pay183 k0_pay182 k0_pay181 k0_pay180
  dsimp only
  rw [row_cast]
  simp only [ValueIdx.addf_apply, ValueIdx.minimumf_apply, slice_row _ (by decide : 0 < 8), slice_row _ (by decide : 1 < 8), slice_row _ (by decide : 2 < 8), slice_row _ (by decide : 3 < 8),
    slice_row _ (by decide : 4 < 8), slice_row _ (by decide : 5 < 8), slice_row _ (by decide : 6 < 8), slice_row _ (by decide : 7 < 8)]
  rfl

/-- The second output's store: the token's own term plus the second smallest, less the first output. -/
theorem pay9_apply (v13 : FVec Ideal S1x256 .f32) (a b : FVec Ideal S8x256 .f32) (j : Fin 256) :
    k0_pay9 (F := Ideal) v13 a b (k0_pay186 a) (k0_pay187 a) (k0_pay188 a b) (ix3 0 0 j)
      = ((v13 (ix2 0 j) : EReal) + (mergeUpTo (col a j) (col b j) 7).2) - ((v13 (ix2 0 j) : EReal) + (mergeUpTo (col a j) (col b j) 7).1) := by
  unfold k0_pay9 k0_pay7 k0_pay6 k0_pay5 k0_pay4 k0_pay3 k0_pay2 k0_pay1 k0_pay188 k0_pay187 k0_pay186 k0_pay185 k0_pay184 k0_pay183 k0_pay182 k0_pay181 k0_pay180
  dsimp only
  rw [row_cast]
  simp only [ValueIdx.addf_apply, ValueIdx.subf_apply, ValueIdx.minimumf_apply, ValueIdx.maximumf_apply, slice_row _ (by decide : 0 < 8), slice_row _ (by decide : 1 < 8), slice_row _ (by decide : 2 < 8), slice_row _ (by decide : 3 < 8),
    slice_row _ (by decide : 4 < 8), slice_row _ (by decide : 5 < 8), slice_row _ (by decide : 6 < 8), slice_row _ (by decide : 7 < 8)]
  rfl

/-- The constant one, as its bits read. -/
theorem one_bf16 : (Scalar.ofBits (F := Ideal) .bf16 0x3F80#16 : EReal) = 1 := by
  simp [Ideal.ofBits, Ideal.ieee, -EReal.coe_mul]
  norm_num

/-- The constant zero, as its bits read. -/
theorem zero_f32 : (FloatOps.ofBits (F := Ideal) FTy.f32 0#32 : EReal) = 0 := by
  simp [Ideal.ofBits, Ideal.ieee, -EReal.coe_mul]

/-- The constant infinity, as its bits read. -/
theorem inf_f32 : (FloatOps.ofBits (F := Ideal) FTy.f32 0x7F800000#32 : EReal) = ⊤ := by
  simp [Ideal.ofBits, Ideal.ieee, -EReal.coe_mul]

/-- The token's own term: its scale squared times the sum of its squares. -/
def tokTerm (x : Vec Ideal S256x32 .fp8e4m3) (xs : Vec Ideal S1x1x256 .f32) (j : Fin 256) : EReal :=
  ((xs (ix3 0 0 j) : EReal) * xs (ix3 0 0 j)) * ∑ d : Fin 32, (x (ix2 j d) : EReal) * x (ix2 j d)

/-- The kernel's token term at lane `j` is that expression. -/
theorem tokTerm_apply (x : Vec Ideal S256x32 .fp8e4m3) (xs : Vec Ideal S1x1x256 .f32) (j : Fin 256) :
    k0_pay174 (F := Ideal) x xs (ix2 0 j) = tokTerm x xs j := by
  unfold k0_pay174 k0_pay173 k0_pay172
  dsimp only
  rw [shapeCast_self]
  have hx : shapeCast S1x256 xs shapeCasts_S1x1x256_S1x256 (ix2 0 j) = xs (ix3 0 0 j) := by
    refine shapeCast_apply xs _ _ _ ?_
    rw [Shape.rowMajor_val_two, Shape.rowMajor_val_three]
    rfl
  rw [ValueIdx.mulf_apply, ValueIdx.mulf_apply, hx, slice_row 0 (by decide)]
  unfold tokTerm
  refine congrArg (fun z : EReal => ((xs (ix3 0 0 j) : EReal) * xs (ix3 0 0 j)) * z) ?_
  refine (Ideal.matmul_transposedRhs_apply (M := 8) (K := 32) (N := 256) none _ _ _ _ _).trans ?_
  show FloatOps.ofBits (F := Ideal) FTy.f32 0#32 + _ = _
  rw [zero_f32, zero_add]
  refine Finset.sum_congr rfl fun d _ => ?_
  show (Scalar.ofBits (F := Ideal) .bf16 0x3F80#16 : EReal) * (_ * _) = _
  rw [one_bf16, one_mul]
  rfl

/-- The search starts from infinity everywhere. -/
theorem init_apply (y : S8x256.Idx) : k0_pay176 (F := Ideal) y = (⊤ : EReal) := inf_f32

end Cert.KernelIdeal.Hand
end
-- ==== Proof.Scratch.lean ====
/- What the first point leaves in the two scratch buffers: for each code its own term and twice its scale, the same in all lanes. -/
module

public import proofs.«01_k».proof.Proof.Merge
public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A code's own term: its scale squared times the sum of its squares. -/
def codeTerm (cb : Vec Ideal S8192x32 .fp8e4m3) (cs : Vec Ideal S8192x1 .f32) (n : Fin 8192) : EReal :=
  ((cs (ix2 n 0) : EReal) * cs (ix2 n 0)) * ∑ d : Fin 32, (cb (ix2 n d) : EReal) * cb (ix2 n d)

/-- The constant two, as its bits read. -/
abbrev two : EReal := FloatOps.ofBits (F := Ideal) FTy.f32 0x40000000#32

/-- Trip `k` of the filling loop reads and writes from row `512 k` on, in each of its three accesses. -/
theorem fillOff1_eq (k : Fin k0_t1_loop.trips) : k0_off1 k = ![512 * k.val, 0] := by
  revert k; decide +kernel

/-- The second access. -/
theorem fillOff2_eq (k : Fin k0_t1_loop.trips) : k0_off2 k = ![512 * k.val, 0] := by
  revert k; decide +kernel

/-- The third access. -/
theorem fillOff3_eq (k : Fin k0_t1_loop.trips) : k0_off3 k = ![512 * k.val, 0] := by
  revert k; decide +kernel

/-- The scales of a chunk, spread over the lanes. -/
theorem spread_apply (w : Vec Ideal S512x1 .f32) (r : Fin 512) (l : Fin 128) : k0_pay169 (F := Ideal) w (ix2 r l) = w (ix2 r 0) := by
  unfold k0_pay169
  rw [shapeCast_self, shapeCast_self]
  refine broadcastTo_apply w _ _ _ fun b => ?_
  match b with
  | ⟨0, _⟩ => rfl
  | ⟨1, _⟩ => rfl

/-- A trip's first store, at an index. -/
theorem pay170_apply (b : Vec Ideal S512x32 .fp8e4m3) (w : Vec Ideal S512x1 .f32) (r : Fin 512) (l : Fin 128) :
    k0_pay170 (F := Ideal) b w (ix2 r l) = ((w (ix2 r 0) : EReal) * w (ix2 r 0)) * ∑ d : Fin 32, (b (ix2 r d) : EReal) * b (ix2 r d) := by
  unfold k0_pay170
  rw [shapeCast_self, ValueIdx.mulf_apply, ValueIdx.mulf_apply, spread_apply]
  refine congrArg (fun z : EReal => ((w (ix2 r 0) : EReal) * w (ix2 r 0)) * z) ?_
  refine (Ideal.matmul_transposedRhs_apply (M := 512) (K := 32) (N := 128) none _ _ _ _ _).trans ?_
  show FloatOps.ofBits (F := Ideal) FTy.f32 0#32 + _ = _
  rw [zero_f32, zero_add]
  refine Finset.sum_congr rfl fun d _ => ?_
  show (_ * _ : EReal) * (Scalar.ofBits (F := Ideal) .bf16 0x3F80#16 : EReal) = _
  rw [one_bf16, mul_one]
  rfl

/-- A trip's second store, at an index. -/
theorem pay171_apply (w : Vec Ideal S512x1 .f32) (r : Fin 512) (l : Fin 128) :
    k0_pay171 (F := Ideal) w (ix2 r l) = two * (w (ix2 r 0) : EReal) := by
  unfold k0_pay171
  rw [shapeCast_self, ValueIdx.mulf_apply, spread_apply]
  rfl

/-- One trip's pieces: one store to each scratch buffer. -/
theorem fillTrip_eq (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (X3 : BufTy.Contents (Elt Ideal) arg3.view.ty) (X4 : BufTy.Contents (Elt Ideal) arg4.view.ty) (k : Fin k0_t1_loop.trips) :
    tripL_k0_t1 (F := Ideal) Variants.none c none i arg1 harg1 arg2 harg2 arg3 harg3 arg4 harg4 arg5 harg5 arg6 harg6 arg7 harg7 arg8 harg8 hc0 X3 X4 k
      = ([⟨Rect.unit (s := S8192x128) (k0_off3 k) S512x128.size (k0_off3_inb i k hc0), k0_pay170
            (View.readAt (Elt Ideal) arg3.view (Rect.unit (s := S8192x32) (k0_off1 k) S512x32.size (k0_off1_inb i k hc0)).toLoadRect X3)
            (View.readAt (Elt Ideal) arg4.view (Rect.unit (s := S8192x1) (k0_off2 k) S512x1.size (k0_off2_inb i k hc0)).toLoadRect X4)⟩],
        [⟨Rect.unit (s := S8192x128) (k0_off3 k) S512x128.size (k0_off3_inb i k hc0), k0_pay171
            (View.readAt (Elt Ideal) arg4.view (Rect.unit (s := S8192x1) (k0_off2 k) S512x1.size (k0_off2_inb i k hc0)).toLoadRect X4)⟩]) := by
  unfold tripL_k0_t1 trip_k0_t1
  dsimp only

/-- The two arrays the scratch buffers are filled with. -/
def termG (cb : Vec Ideal S8192x32 .fp8e4m3) (cs : Vec Ideal S8192x1 .f32) (y : S8192x128.Idx) : EReal := codeTerm cb cs (y 0)
/-- Twice the code's scale, on every lane. -/
def twiceG (cs : Vec Ideal S8192x1 .f32) (y : S8192x128.Idx) : EReal := two * (cs (ix2 (y 0) 0) : EReal)

/-- Row `r` of the words a trip loads. -/
theorem load3_apply (i : grid0.Coords) (hc0 : cond0_0 i) (arg3 : Memref sig .tc .vmem S8192x32 .fp8e4m3) (harg3 : arg3.IsWhole) (cb : Vec Ideal S8192x32 .fp8e4m3)
    (k : Fin k0_t1_loop.trips) (r : Fin 512) (d : Fin 32) (n : Fin 8192) (hn : n.val = 512 * k.val + r.val) :
    View.readAt (Elt Ideal) arg3.view (Rect.unit (s := S8192x32) (k0_off1 k) S512x32.size (k0_off1_inb i k hc0)).toLoadRect (harg3.unread cb) (ix2 r d) = cb (ix2 n d) := by
  rw [View.readAt_eq_ld, harg3.read_unread]
  have h := fillOff1_eq k
  refine congrArg cb (funext fun b => Fin.ext ?_)
  match b with
  | ⟨0, _⟩ => show (k0_off1 k) 0 + 1 * r.val = _; rw [h]; simp [ix2, hn]
  | ⟨1, _⟩ => show (k0_off1 k) 1 + 1 * d.val = _; rw [h]; simp [ix2]

/-- Row `r` of the scales a trip loads. -/
theorem load4_apply (i : grid0.Coords) (hc0 : cond0_0 i) (arg4 : Memref sig .tc .vmem S8192x1 .f32) (harg4 : arg4.IsWhole) (cs : Vec Ideal S8192x1 .f32)
    (k : Fin k0_t1_loop.trips) (r : Fin 512) (n : Fin 8192) (hn : n.val = 512 * k.val + r.val) :
    View.readAt (Elt Ideal) arg4.view (Rect.unit (s := S8192x1) (k0_off2 k) S512x1.size (k0_off2_inb i k hc0)).toLoadRect (harg4.unread cs) (ix2 r 0) = cs (ix2 n 0) := by
  rw [View.readAt_eq_ld, harg4.read_unread]
  have h := fillOff2_eq k
  refine congrArg cs (funext fun b => Fin.ext ?_)
  match b with
  | ⟨0, _⟩ => show (k0_off2 k) 0 + 1 * r.val = _; rw [h]; simp [ix2, hn]
  | ⟨1, _⟩ => show (k0_off2 k) 1 + 1 * 0 = _; rw [h]; simp [ix2]

/-- The row of the scratch that row `r` of a trip's store lands in. -/
theorem row_emb (i : grid0.Coords) (hc0 : cond0_0 i) (k : Fin k0_t1_loop.trips) (x : S512x128.Idx) :
    (((Rect.unit (s := S8192x128) (k0_off3 k) S512x128.size (k0_off3_inb i k hc0)).emb x) 0).val = 512 * k.val + (x 0).val := by
  have h := fillOff3_eq k
  show (k0_off3 k) 0 + 1 * (x 0).val = _
  rw [h]; simp

/-- Every store of the sixteen trips carries the rows of the two arrays it lands in. -/
theorem fill_pieces (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (cb : Vec Ideal S8192x32 .fp8e4m3) (cs : Vec Ideal S8192x1 .f32) (q : ℕ) (hq : q ≤ k0_t1_loop.trips) :
    (∀ p ∈ (pb_k0_t1 (F := Ideal) Variants.none c none i arg1 harg1 arg2 harg2 arg3 harg3 arg4 harg4 arg5 harg5 arg6 harg6 arg7 harg7 arg8 harg8 hc0 (harg3.unread cb) (harg4.unread cs) q).1, ∀ x : p.1.shape.Idx, p.2 x = termG cb cs (p.1.emb x))
    ∧ (∀ p ∈ (pb_k0_t1 (F := Ideal) Variants.none c none i arg1 harg1 arg2 harg2 arg3 harg3 arg4 harg4 arg5 harg5 arg6 harg6 arg7 harg7 arg8 harg8 hc0 (harg3.unread cb) (harg4.unread cs) q).2, ∀ x : p.1.shape.Idx, p.2 x = twiceG cs (p.1.emb x)) := by
  induction q with
  | zero => exact ⟨fun p hp => absurd hp (by unfold pb_k0_t1; simp), fun p hp => absurd hp (by unfold pb_k0_t1; simp)⟩
  | succ q ih =>
    obtain ⟨ih1, ih2⟩ := ih (by omega)
    have e := pb_k0_t1_succ (F := Ideal) Variants.none c none i arg1 harg1 arg2 harg2 arg3 harg3 arg4 harg4 arg5 harg5 arg6 harg6 arg7 harg7 arg8 harg8 hc0 (harg3.unread cb) (harg4.unread cs) ⟨q, by omega⟩
    rw [fillTrip_eq c i arg1 harg1 arg2 harg2 arg3 harg3 arg4 harg4 arg5 harg5 arg6 harg6 arg7 harg7 arg8 harg8 hc0] at e
    change pb_k0_t1 (F := Ideal) Variants.none c none i arg1 harg1 arg2 harg2 arg3 harg3 arg4 harg4 arg5 harg5 arg6 harg6 arg7 harg7 arg8 harg8 hc0 (harg3.unread cb) (harg4.unread cs) (q + 1) = _ at e
    rw [e]
    constructor
    · intro p hp
      rcases List.mem_append.mp hp with hp | hp
      · obtain rfl := List.mem_singleton.mp hp
        intro x
        have hr := row_emb i hc0 ⟨q, by omega⟩ x
        obtain ⟨r, l, rfl⟩ : ∃ (r : Fin 512) (l : Fin 128), x = ix2 r l := ⟨x 0, x 1, funext fun b => by match b with | ⟨0, _⟩ => rfl | ⟨1, _⟩ => rfl⟩
        refine (pay170_apply _ _ r l).trans ?_
        unfold termG codeTerm
        rw [load4_apply i hc0 arg4 harg4 cs ⟨q, by omega⟩ r _ hr]
        refine congrArg (fun z : EReal => _ * z) (Finset.sum_congr rfl fun d _ => ?_)
        rw [load3_apply i hc0 arg3 harg3 cb ⟨q, by omega⟩ r d _ hr]
      · exact ih1 p hp
    · intro p hp
      rcases List.mem_append.mp hp with hp | hp
      · obtain rfl := List.mem_singleton.mp hp
        intro x
        have hr := row_emb i hc0 ⟨q, by omega⟩ x
        obtain ⟨r, l, rfl⟩ : ∃ (r : Fin 512) (l : Fin 128), x = ix2 r l := ⟨x 0, x 1, funext fun b => by match b with | ⟨0, _⟩ => rfl | ⟨1, _⟩ => rfl⟩
        refine (pay171_apply _ r l).trans ?_
        unfold twiceG
        rw [load4_apply i hc0 arg4 harg4 cs ⟨q, by omega⟩ r _ hr]
      · exact ih2 p hp

/-- The first scratch buffer holds each code's own term, in every lane. -/
theorem fill0_eq (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (cb : Vec Ideal S8192x32 .fp8e4m3) (cs : Vec Ideal S8192x1 .f32) :
    fill0 (F := Ideal) c i arg1 harg1 arg2 harg2 arg3 harg3 arg4 harg4 arg5 harg5 arg6 harg6 arg7 harg7 arg8 harg8 hc0 cb cs = termG cb cs := by
  unfold fill0
  rw [View.read_writes_junk_eq_canon]
  exact funext fun y => View.canon_apply_of_pieces (Val := Elt Ideal) (termG cb cs) _ (fill_pieces c i arg1 harg1 arg2 harg2 arg3 harg3 arg4 harg4 arg5 harg5 arg6 harg6 arg7 harg7 arg8 harg8 hc0 cb cs _ le_rfl).1 y (fill_cover0 c i arg1 harg1 arg2 harg2 arg3 harg3 arg4 harg4 arg5 harg5 arg6 harg6 arg7 harg7 arg8 harg8 hc0 cb cs y)

/-- The second scratch buffer holds twice each code's scale, in every lane. -/
theorem fill1_eq (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (cb : Vec Ideal S8192x32 .fp8e4m3) (cs : Vec Ideal S8192x1 .f32) :
    fill1 (F := Ideal) c i arg1 harg1 arg2 harg2 arg3 harg3 arg4 harg4 arg5 harg5 arg6 harg6 arg7 harg7 arg8 harg8 hc0 cb cs = twiceG cs := by
  unfold fill1
  rw [View.read_writes_junk_eq_canon]
  exact funext fun y => View.canon_apply_of_pieces (Val := Elt Ideal) (twiceG cs) _ (fill_pieces c i arg1 harg1 arg2 harg2 arg3 harg3 arg4 harg4 arg5 harg5 arg6 harg6 arg7 harg7 arg8 harg8 hc0 cb cs _ le_rfl).2 y (fill_cover1 c i arg1 harg1 arg2 harg2 arg3 harg3 arg4 harg4 arg5 harg5 arg6 harg6 arg7 harg7 arg8 harg8 hc0 cb cs y)

end Cert.KernelIdeal.Hand
end
-- ==== Proof.Block.lean ====
/- What one tile leaves in its two output blocks. -/
module

public import proofs.«01_k».proof.Proof.Scratch
public import proofs.«01_k».proof.Proof.KernelIdealFrame

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Offset zero on two axes. -/
theorem z2 : (![0, 0] : Fin 2 → ℕ) = fun _ => 0 := by
  funext a; fin_cases a <;> rfl

/-- Offset zero on three axes. -/
theorem z3 : (![0, 0, 0] : Fin 3 → ℕ) = fun _ => 0 := by
  funext a; fin_cases a <;> rfl

/-- A tile's first result: each token's own term plus the smallest of its distances. -/
def bestOf (x : Vec Ideal S256x32 .fp8e4m3) (xs : Vec Ideal S1x1x256 .f32) (cb : Vec Ideal S8192x32 .fp8e4m3) (cn s2 : Vec Ideal S8192x128 .f32) (j : Fin 256) : EReal :=
  tokTerm x xs j + TwoMin.least (Finset.range 8192) (dist x xs cb cn s2 j)

/-- A tile's second result: each token's own term plus the second smallest of its distances, less the first result. -/
def gapOf (x : Vec Ideal S256x32 .fp8e4m3) (xs : Vec Ideal S1x1x256 .f32) (cb : Vec Ideal S8192x32 .fp8e4m3) (cn s2 : Vec Ideal S8192x128 .f32) (j : Fin 256) : EReal :=
  (tokTerm x xs j + TwoMin.second (Finset.range 8192) (dist x xs cb cn s2 j)) - bestOf x xs cb cn s2 j

/-- The search loop makes 16 trips. -/
theorem trips_search : Scf.trips k0_t2_loop.lb k0_t2_loop.ub k0_t2_loop.st = 16 := by decide +kernel

/-- After the sixteen trips each sublane holds the two smallest of its codes; merged, of all codes. -/
theorem merged (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (x0 : Vec Ideal S256x32 .fp8e4m3) (x1 : Vec Ideal S1x1x256 .f32) (x2 : Vec Ideal S8192x32 .fp8e4m3) (xs0 xs1 : Vec Ideal S8192x128 .f32) (j : Fin 256) :
    mergeUpTo (col (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 j) (col (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).2 j) 7
      = (TwoMin.least (Finset.range 8192) (dist x0 x1 x2 xs0 xs1 j), TwoMin.second (Finset.range 8192) (dist x0 x1 x2 xs0 xs1 j)) := by
  rw [trips_search]
  have h := fun s => search_state c i arg1 harg1 arg2 harg2 arg3 harg3 arg4 harg4 arg5 harg5 arg6 harg6 arg7 harg7 arg8 harg8 x0 x1 x2 xs0 xs1 (k0_pay176, k0_pay176) (fun y => ⟨init_apply y, init_apply y⟩) s j 16 le_rfl
  rw [← rowsUpTo_seven]
  refine merge_eq _ _ _ (fun s hs => ?_) (fun s hs => ?_) 7 (by decide)
  · unfold col; rw [dif_pos hs]; exact (h ⟨s, hs⟩).1
  · unfold col; rw [dif_pos hs]; exact (h ⟨s, hs⟩).2

/-- What a tile (a later one) leaves in its first output block. -/
theorem tile_B_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i) (x0 : Vec Ideal S256x32 .fp8e4m3) (x1 : Vec Ideal S1x1x256 .f32) (x2 : Vec Ideal S8192x32 .fp8e4m3) (x3 : Vec Ideal S8192x1 .f32) (xs0 xs1 : Vec Ideal S8192x128 .f32) (j : Fin 256) :
    out0_B_4 (F := Ideal) c i arg1 harg1 arg2 harg2 arg3 harg3 arg4 harg4 arg5 harg5 arg6 harg6 arg7 harg7 arg8 harg8 hc0 x0 x1 x2 x3 xs0 xs1 (ix3 0 0 j) = bestOf x0 x1 x2 xs0 xs1 j := by
  have e : out0_B_4 (F := Ideal) c i arg1 harg1 arg2 harg2 arg3 harg3 arg4 harg4 arg5 harg5 arg6 harg6 arg7 harg7 arg8 harg8 hc0 x0 x1 x2 x3 xs0 xs1 = k0_pay8 (k0_pay174 x0 x1) (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 (k0_pay186 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1) (k0_pay187 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1) := by
    unfold out0_B_4
    rw [View.read_writes_eq_canon _ _ _ (cover0_B_4 c i arg1 harg1 arg2 harg2 arg3 harg3 arg4 harg4 arg5 harg5 arg6 harg6 arg7 harg7 arg8 harg8 hc0 x0 x1 x2 x3 xs0 xs1)]
    unfold kernelRun0_B
    dsimp only
    sl_unfold_words
    rw [View.canon_unit_zero (S := S1x1x256) z3]
    have e0 : (View.readAt (Elt Ideal) arg1.view (Rect.unit (s := S256x32) ![0, 0] S256x32.size inb_S256x32_S256x32_0_0).toLoadRect (harg1.unread x0)) = x0 := by rw [View.readAt_eq_ld, harg1.read_unread]; exact View.ld_unit_zero (S := S256x32) z2 _ _
    have e1 : (View.readAt (Elt Ideal) arg2.view (Rect.unit (s := S1x1x256) ![0, 0, 0] S1x1x256.size inb_S1x1x256_S1x1x256_0_0_0).toLoadRect (harg2.unread x1)) = x1 := by rw [View.readAt_eq_ld, harg2.read_unread]; exact View.ld_unit_zero (S := S1x1x256) z3 _ _
    rw [e0, e1]
  rw [e]
  refine (pay8_apply _ (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).2 j).trans ?_
  rw [merged c i arg1 harg1 arg2 harg2 arg3 harg3 arg4 harg4 arg5 harg5 arg6 harg6 arg7 harg7 arg8 harg8 x0 x1 x2, tokTerm_apply]
  rfl

/-- What a tile (a later one) leaves in its second output block. -/
theorem tile_B_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : ¬cond0_0 i) (x0 : Vec Ideal S256x32 .fp8e4m3) (x1 : Vec Ideal S1x1x256 .f32) (x2 : Vec Ideal S8192x32 .fp8e4m3) (x3 : Vec Ideal S8192x1 .f32) (xs0 xs1 : Vec Ideal S8192x128 .f32) (j : Fin 256) :
    out0_B_5 (F := Ideal) c i arg1 harg1 arg2 harg2 arg3 harg3 arg4 harg4 arg5 harg5 arg6 harg6 arg7 harg7 arg8 harg8 hc0 x0 x1 x2 x3 xs0 xs1 (ix3 0 0 j) = gapOf x0 x1 x2 xs0 xs1 j := by
  have e : out0_B_5 (F := Ideal) c i arg1 harg1 arg2 harg2 arg3 harg3 arg4 harg4 arg5 harg5 arg6 harg6 arg7 harg7 arg8 harg8 hc0 x0 x1 x2 x3 xs0 xs1 = k0_pay9 (k0_pay174 x0 x1) (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).2 (k0_pay186 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1) (k0_pay187 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1) (k0_pay188 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).2) := by
    unfold out0_B_5
    rw [View.read_writes_eq_canon _ _ _ (cover0_B_5 c i arg1 harg1 arg2 harg2 arg3 harg3 arg4 harg4 arg5 harg5 arg6 harg6 arg7 harg7 arg8 harg8 hc0 x0 x1 x2 x3 xs0 xs1)]
    unfold kernelRun0_B
    dsimp only
    sl_unfold_words
    rw [View.canon_unit_zero (S := S1x1x256) z3]
    have e0 : (View.readAt (Elt Ideal) arg1.view (Rect.unit (s := S256x32) ![0, 0] S256x32.size inb_S256x32_S256x32_0_0).toLoadRect (harg1.unread x0)) = x0 := by rw [View.readAt_eq_ld, harg1.read_unread]; exact View.ld_unit_zero (S := S256x32) z2 _ _
    have e1 : (View.readAt (Elt Ideal) arg2.view (Rect.unit (s := S1x1x256) ![0, 0, 0] S1x1x256.size inb_S1x1x256_S1x1x256_0_0_0).toLoadRect (harg2.unread x1)) = x1 := by rw [View.readAt_eq_ld, harg2.read_unread]; exact View.ld_unit_zero (S := S1x1x256) z3 _ _
    rw [e0, e1]
  rw [e]
  refine (pay9_apply _ (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread xs0) (harg8.unread xs1) (k0_pay176, k0_pay176) (Scf.trips k0_t2_loop.lb k0_t2_loop.ub k0_t2_loop.st)).2 j).trans ?_
  rw [merged c i arg1 harg1 arg2 harg2 arg3 harg3 arg4 harg4 arg5 harg5 arg6 harg6 arg7 harg7 arg8 harg8 x0 x1 x2, tokTerm_apply]
  rfl

/-- What a tile (the first) leaves in its first output block. -/
theorem tile_A_4 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x0 : Vec Ideal S256x32 .fp8e4m3) (x1 : Vec Ideal S1x1x256 .f32) (x2 : Vec Ideal S8192x32 .fp8e4m3) (x3 : Vec Ideal S8192x1 .f32) (j : Fin 256) :
    out0_A_4 (F := Ideal) c i arg1 harg1 arg2 harg2 arg3 harg3 arg4 harg4 arg5 harg5 arg6 harg6 arg7 harg7 arg8 harg8 hc0 x0 x1 x2 x3 (ix3 0 0 j) = bestOf x0 x1 x2 (termG x2 x3) (twiceG x3) j := by
  have e : out0_A_4 (F := Ideal) c i arg1 harg1 arg2 harg2 arg3 harg3 arg4 harg4 arg5 harg5 arg6 harg6 arg7 harg7 arg8 harg8 hc0 x0 x1 x2 x3 = k0_pay8 (k0_pay174 x0 x1) (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1 (k0_pay186 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1) (k0_pay187 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1) := by
    unfold out0_A_4
    rw [View.read_writes_eq_canon _ _ _ (cover0_A_4 c i arg1 harg1 arg2 harg2 arg3 harg3 arg4 harg4 arg5 harg5 arg6 harg6 arg7 harg7 arg8 harg8 hc0 x0 x1 x2 x3)]
    unfold kernelRun0_A
    dsimp only
    sl_unfold_words
    rw [View.canon_unit_zero (S := S1x1x256) z3]
    have e0 : (View.readAt (Elt Ideal) arg1.view (Rect.unit (s := S256x32) ![0, 0] S256x32.size inb_S256x32_S256x32_0_0).toLoadRect (harg1.unread x0)) = x0 := by rw [View.readAt_eq_ld, harg1.read_unread]; exact View.ld_unit_zero (S := S256x32) z2 _ _
    have e1 : (View.readAt (Elt Ideal) arg2.view (Rect.unit (s := S1x1x256) ![0, 0, 0] S1x1x256.size inb_S1x1x256_S1x1x256_0_0_0).toLoadRect (harg2.unread x1)) = x1 := by rw [View.readAt_eq_ld, harg2.read_unread]; exact View.ld_unit_zero (S := S1x1x256) z3 _ _
    rw [e0, e1]
  rw [e]
  refine (pay8_apply _ (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).2 j).trans ?_
  rw [merged c i arg1 harg1 arg2 harg2 arg3 harg3 arg4 harg4 arg5 harg5 arg6 harg6 arg7 harg7 arg8 harg8 x0 x1 x2, tokTerm_apply, fill0_eq c i arg1 harg1 arg2 harg2 arg3 harg3 arg4 harg4 arg5 harg5 arg6 harg6 arg7 harg7 arg8 harg8 hc0, fill1_eq c i arg1 harg1 arg2 harg2 arg3 harg3 arg4 harg4 arg5 harg5 arg6 harg6 arg7 harg7 arg8 harg8 hc0]
  rfl

/-- What a tile (the first) leaves in its second output block. -/
theorem tile_A_5 (c : Dev nD) (i : grid0.Coords) (arg1 : Memref sig .tc .vmem S256x32 .fp8e4m3) (harg1 : arg1.IsWhole) (arg2 : Memref sig .tc .vmem S1x1x256 .f32) (harg2 : arg2.IsWhole) (arg3 : Memref sig .tc .vmem S8192x32 .fp8e4m3) (harg3 : arg3.IsWhole) (arg4 : Memref sig .tc .vmem S8192x1 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S8192x128 .f32) (harg7 : arg7.IsWhole) (arg8 : Memref sig .tc .vmem S8192x128 .f32) (harg8 : arg8.IsWhole) (hc0 : cond0_0 i) (x0 : Vec Ideal S256x32 .fp8e4m3) (x1 : Vec Ideal S1x1x256 .f32) (x2 : Vec Ideal S8192x32 .fp8e4m3) (x3 : Vec Ideal S8192x1 .f32) (j : Fin 256) :
    out0_A_5 (F := Ideal) c i arg1 harg1 arg2 harg2 arg3 harg3 arg4 harg4 arg5 harg5 arg6 harg6 arg7 harg7 arg8 harg8 hc0 x0 x1 x2 x3 (ix3 0 0 j) = gapOf x0 x1 x2 (termG x2 x3) (twiceG x3) j := by
  have e : out0_A_5 (F := Ideal) c i arg1 harg1 arg2 harg2 arg3 harg3 arg4 harg4 arg5 harg5 arg6 harg6 arg7 harg7 arg8 harg8 hc0 x0 x1 x2 x3 = k0_pay9 (k0_pay174 x0 x1) (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).2 (k0_pay186 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1) (k0_pay187 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1) (k0_pay188 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).2) := by
    unfold out0_A_5
    rw [View.read_writes_eq_canon _ _ _ (cover0_A_5 c i arg1 harg1 arg2 harg2 arg3 harg3 arg4 harg4 arg5 harg5 arg6 harg6 arg7 harg7 arg8 harg8 hc0 x0 x1 x2 x3)]
    unfold kernelRun0_A
    dsimp only
    sl_unfold_words
    rw [View.canon_unit_zero (S := S1x1x256) z3]
    have e0 : (View.readAt (Elt Ideal) arg1.view (Rect.unit (s := S256x32) ![0, 0] S256x32.size inb_S256x32_S256x32_0_0).toLoadRect (harg1.unread x0)) = x0 := by rw [View.readAt_eq_ld, harg1.read_unread]; exact View.ld_unit_zero (S := S256x32) z2 _ _
    have e1 : (View.readAt (Elt Ideal) arg2.view (Rect.unit (s := S1x1x256) ![0, 0, 0] S1x1x256.size inb_S1x1x256_S1x1x256_0_0_0).toLoadRect (harg2.unread x1)) = x1 := by rw [View.readAt_eq_ld, harg2.read_unread]; exact View.ld_unit_zero (S := S1x1x256) z3 _ _
    rw [e0, e1]
  rw [e]
  refine (pay9_apply _ (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).1 (st_k0_t2 (F := Ideal) Variants.none c none i arg1 harg1 arg2 harg2 arg3 harg3 arg4 harg4 arg5 harg5 arg6 harg6 arg7 harg7 arg8 harg8 x0 x1 (harg3.unread x2) (harg7.unread (fill0 (F := Ideal) c i arg1 harg1 arg2 harg2 arg3 harg3 arg4 harg4 arg5 harg5 arg6 harg6 arg7 harg7 arg8 harg8 hc0 x2 x3)) (harg8.unread (fill1 (F := Ideal) c i arg1 harg1 arg2 harg2 arg3 harg3 arg4 harg4 arg5 harg5 arg6 harg6 arg7 harg7 arg8 harg8 hc0 x2 x3)) (k0_pay176, k0_pay176) (Scf.trips k0_t2_loop.lb k0_t2_loop.ub k0_t2_loop.st)).2 j).trans ?_
  rw [merged c i arg1 harg1 arg2 harg2 arg3 harg3 arg4 harg4 arg5 harg5 arg6 harg6 arg7 harg7 arg8 harg8 x0 x1 x2, tokTerm_apply, fill0_eq c i arg1 harg1 arg2 harg2 arg3 harg3 arg4 harg4 arg5 harg5 arg6 harg6 arg7 harg7 arg8 harg8 hc0, fill1_eq c i arg1 harg1 arg2 harg2 arg3 harg3 arg4 harg4 arg5 harg5 arg6 harg6 arg7 harg7 arg8 harg8 hc0]
  rfl

end Cert.KernelIdeal.Hand
end
-- ==== Proof.Tiles.lean ====
/- What every tile leaves in its output blocks, read off the four argument arrays. -/
module

public import proofs.«01_k».proof.Proof.Block

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The four argument arrays as launched. -/
abbrev argX (c : Dev nD) : Vec Ideal S12x4096x32 .fp8e4m3 := m ((c : Thread nD τ).loc main_arg0)
abbrev argXs (c : Dev nD) : Vec Ideal S12x4096 .f32 := m ((c : Thread nD τ).loc main_arg1)
abbrev argCb (c : Dev nD) : Vec Ideal S8192x32 .fp8e4m3 := m ((c : Thread nD τ).loc main_arg2)
abbrev argCs (c : Dev nD) : Vec Ideal S8192 .f32 := m ((c : Thread nD τ).loc main_arg3)

/-- Row and column of token `T`. -/
def tokB (T : ℕ) : Fin 12 := ⟨T / 4096 % 12, Nat.mod_lt _ (by decide)⟩
/-- And its column. -/
def tokS (T : ℕ) : Fin 4096 := ⟨T % 4096, Nat.mod_lt _ (by decide)⟩

/-- The arrays the grid's windows read: the arguments, reshaped. -/
theorem V_v0 (c : Dev nD) : V m c main_v0 = shapeCast S49152x32 (argX m c) shapeCasts_S12x4096x32_S49152x32 := by
  show StableHlo.after (List.flatten [hostOps0]) _ _ = _
  simp only [hostOps0, List.flatten_cons, List.flatten_nil, List.append_nil]
  after_results
  rfl

/-- The scales in tiles of 256 tokens. -/
theorem V_v1 (c : Dev nD) : V m c main_v1 = shapeCast S192x1x256 (argXs m c) shapeCasts_S12x4096_S192x1x256 := by
  show StableHlo.after (List.flatten [hostOps0]) _ _ = _
  simp only [hostOps0, List.flatten_cons, List.flatten_nil, List.append_nil]
  after_results
  rfl

/-- The codebook's scales in a column. -/
theorem V_v2 (c : Dev nD) : V m c main_v2 = shapeCast S8192x1 (argCs m c) shapeCasts_S8192_S8192x1 := by
  show StableHlo.after (List.flatten [hostOps0]) _ _ = _
  simp only [hostOps0, List.flatten_cons, List.flatten_nil, List.append_nil]
  after_results
  rfl

/-- The block each window takes at point `t`: the tokens' tile, -/
theorem index0 : ∀ t : Fin cfg0.N, win0_0.index t = ![t.val, 0] := by
  exact (by decide +kernel : ∀ t : Fin grid0.N, win0_0.index t = ![t.val, 0])
/-- their scales' tile, -/
theorem index1 : ∀ t : Fin cfg0.N, win0_1.index t = ![t.val, 0, 0] := by
  exact (by decide +kernel : ∀ t : Fin grid0.N, win0_1.index t = ![t.val, 0, 0])
/-- the whole codebook, -/
theorem index2 : ∀ t : Fin cfg0.N, win0_2.index t = ![0, 0] := by
  exact (by decide +kernel : ∀ t : Fin grid0.N, win0_2.index t = ![0, 0])
/-- all its scales, -/
theorem index3 : ∀ t : Fin cfg0.N, win0_3.index t = ![0, 0] := by
  exact (by decide +kernel : ∀ t : Fin grid0.N, win0_3.index t = ![0, 0])
/-- and the tile of each result. -/
theorem index4 : ∀ t : Fin cfg0.N, win0_4.index t = ![t.val, 0, 0] := by
  exact (by decide +kernel : ∀ t : Fin grid0.N, win0_4.index t = ![t.val, 0, 0])
/-- The second result's tile. -/
theorem index5 : ∀ t : Fin cfg0.N, win0_5.index t = ![t.val, 0, 0] := by
  exact (by decide +kernel : ∀ t : Fin grid0.N, win0_5.index t = ![t.val, 0, 0])

/-- Tile `t`'s token codes. -/
theorem blk0_apply (c : Dev nD) (t : Fin cfg0.N) (j : Fin 256) (d : Fin 32) :
    (iblk m c 0 t : Vec Ideal S256x32 .fp8e4m3) (ix2 j d) = argX m c (ix3 (tokB (256 * t.val + j.val)) (tokS (256 * t.val + j.val)) d) := by
  have ht : t.val < 192 := Nat.lt_of_lt_of_eq t.isLt N_0
  have hi := index0 t
  unfold iblk
  rw [View.read_apply]
  show V m c main_v0 _ = _
  rw [V_v0]
  refine shapeCast_apply (argX m c) _ _ _ ?_
  rw [Shape.rowMajor_val_two, Shape.rowMajor_val_three]
  show ((256 * t.val + j.val) / 4096 % 12 * 4096 + (256 * t.val + j.val) % 4096) * 32 + d.val = (win0_0.index t 0 * 256 + 1 * j.val) * 32 + (win0_0.index t 1 * 32 + 1 * d.val)
  rw [hi]
  show ((256 * t.val + j.val) / 4096 % 12 * 4096 + (256 * t.val + j.val) % 4096) * 32 + d.val = (t.val * 256 + 1 * j.val) * 32 + (0 * 32 + 1 * d.val)
  omega

/-- Tile `t`'s token scales. -/
theorem blk1_apply (c : Dev nD) (t : Fin cfg0.N) (j : Fin 256) :
    (iblk m c 1 t : Vec Ideal S1x1x256 .f32) (ix3 0 0 j) = argXs m c (ix2 (tokB (256 * t.val + j.val)) (tokS (256 * t.val + j.val))) := by
  have ht : t.val < 192 := Nat.lt_of_lt_of_eq t.isLt N_0
  have hi := index1 t
  unfold iblk
  rw [View.read_apply]
  show V m c main_v1 _ = _
  rw [V_v1]
  refine shapeCast_apply (argXs m c) _ _ _ ?_
  rw [Shape.rowMajor_val_two, Shape.rowMajor_val_three]
  show (256 * t.val + j.val) / 4096 % 12 * 4096 + (256 * t.val + j.val) % 4096 = ((win0_1.index t 0 * 1 + 1 * 0) * 1 + (win0_1.index t 1 * 1 + 1 * 0)) * 256 + (win0_1.index t 2 * 256 + 1 * j.val)
  rw [hi]
  show (256 * t.val + j.val) / 4096 % 12 * 4096 + (256 * t.val + j.val) % 4096 = ((t.val * 1 + 1 * 0) * 1 + (0 * 1 + 1 * 0)) * 256 + (0 * 256 + 1 * j.val)
  omega

/-- Every tile sees the whole code book, -/
theorem blk2_eq (c : Dev nD) (t : Fin cfg0.N) : (iblk m c 2 t : Vec Ideal S8192x32 .fp8e4m3) = argCb m c := by
  have hi := index2 t
  funext y
  unfold iblk
  rw [View.read_apply]
  show V m c main_arg2 _ = _
  rw [V_main_arg2]
  refine congrArg (argCb m c) (funext fun b => Fin.ext ?_)
  match b with
  | ⟨0, _⟩ => show win0_2.index t 0 * 8192 + 1 * (y 0).val = (y 0).val; rw [hi]; show 0 * 8192 + 1 * (y 0).val = (y 0).val; omega
  | ⟨1, _⟩ => show win0_2.index t 1 * 32 + 1 * (y 1).val = (y 1).val; rw [hi]; show 0 * 32 + 1 * (y 1).val = (y 1).val; omega

/-- and every code's scale. -/
theorem blk3_eq (c : Dev nD) (t : Fin cfg0.N) : (iblk m c 3 t : Vec Ideal S8192x1 .f32) = shapeCast S8192x1 (argCs m c) shapeCasts_S8192_S8192x1 := by
  have hi := index3 t
  rw [← V_v2]
  funext y
  unfold iblk
  rw [View.read_apply]
  show V m c main_v2 _ = V m c main_v2 _
  refine congrArg (V m c main_v2) (funext fun b => Fin.ext ?_)
  match b with
  | ⟨0, _⟩ => show win0_3.index t 0 * 8192 + 1 * (y 0).val = (y 0).val; rw [hi]; show 0 * 8192 + 1 * (y 0).val = (y 0).val; omega
  | ⟨1, _⟩ => show win0_3.index t 1 * 1 + 1 * (y 1).val = (y 1).val; rw [hi]; show 0 * 1 + 1 * (y 1).val = (y 1).val; omega

/-- The code scales as the grid reads them. -/
abbrev colCs (c : Dev nD) : Vec Ideal S8192x1 .f32 := shapeCast S8192x1 (argCs m c) shapeCasts_S8192_S8192x1

/-- The column of scales, read. -/
theorem colCs_apply (c : Dev nD) (n : Fin 8192) : colCs m c (ix2 n 0) = argCs m c (ix1 n) := by
  refine shapeCast_apply (argCs m c) _ _ _ ?_
  rw [Shape.rowMajor_val_two, Shape.rowMajor_val_one]
  show n.val = n.val * 1 + 0
  omega

/-- From the first point on the scratch buffers hold the two per-code arrays. -/
theorem scratch_eq (c : Dev nD) : ∀ (n : ℕ) (hn : n < cfg0.N),
    (outsAt0 m c n hn).2.2.1 = termG (argCb m c) (colCs m c) ∧ (outsAt0 m c n hn).2.2.2 = twiceG (colCs m c)
  | 0, hn => by
    have e := outsAt0_A m c ⟨0, hn⟩ (Nat.zero_mod _)
    dsimp only at e
    rw [e]
    constructor
    · refine Eq.trans ?_ (congrArg₂ termG (blk2_eq m c ⟨0, hn⟩) (blk3_eq m c ⟨0, hn⟩))
      exact fill0_eq (arg1 := ms0_0 ⟨0, hn⟩) (harg1 := hs0_0 ⟨0, hn⟩) ..
    · refine Eq.trans ?_ (congrArg twiceG (blk3_eq m c ⟨0, hn⟩))
      exact fill1_eq (arg1 := ms0_0 ⟨0, hn⟩) (harg1 := hs0_0 ⟨0, hn⟩) ..
  | n + 1, hn => by
    have hN : cfg0.N = 192 := N_0
    have hB : ¬(⟨n + 1, hn⟩ : Fin cfg0.N).val % 192 = 0 := by dsimp only; omega
    have e := outsAt0_B m c ⟨n + 1, hn⟩ hB
    dsimp only at e
    rw [e]
    exact scratch_eq c n (Nat.lt_of_succ_lt hn)

/-- Tile `t`'s first output block. -/
theorem outs4 (c : Dev nD) (t : Fin cfg0.N) (j : Fin 256) :
    (outsAt0 m c t.val t.isLt).1 (ix3 0 0 j) = bestOf (iblk m c 0 t) (iblk m c 1 t) (argCb m c) (termG (argCb m c) (colCs m c)) (twiceG (colCs m c)) j := by
  by_cases h0 : t.val % 192 = 0
  · rw [outsAt0_A m c t h0]
    dsimp only
    rw [tile_A_4, blk2_eq, blk3_eq]
  · rw [outsAt0_B m c t h0]
    dsimp only
    rw [tile_B_4, blk2_eq, (scratch_eq m c _ _).1, (scratch_eq m c _ _).2]

/-- Tile `t`'s second output block. -/
theorem outs5 (c : Dev nD) (t : Fin cfg0.N) (j : Fin 256) :
    (outsAt0 m c t.val t.isLt).2.1 (ix3 0 0 j) = gapOf (iblk m c 0 t) (iblk m c 1 t) (argCb m c) (termG (argCb m c) (colCs m c)) (twiceG (colCs m c)) j := by
  by_cases h0 : t.val % 192 = 0
  · rw [outsAt0_A m c t h0]
    dsimp only
    rw [tile_A_5, blk2_eq, blk3_eq]
  · rw [outsAt0_B m c t h0]
    dsimp only
    rw [tile_B_5, blk2_eq, (scratch_eq m c _ _).1, (scratch_eq m c _ _).2]

end Cert.KernelIdeal.Hand
end
-- ==== Proof.KernelValue.lean ====
/- The kernel's two results, as functions of the four argument arrays. -/
module

public import proofs.«01_k».proof.Proof.Tiles

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Token `T`'s own term. -/
def tokT (X : Vec Ideal S12x4096x32 .fp8e4m3) (Xs : Vec Ideal S12x4096 .f32) (T : ℕ) : EReal :=
  ((Xs (ix2 (tokB T) (tokS T)) : EReal) * Xs (ix2 (tokB T) (tokS T))) * ∑ d : Fin 32, (X (ix3 (tokB T) (tokS T) d) : EReal) * X (ix3 (tokB T) (tokS T) d)

/-- Code `n`'s own term. -/
def codeT (Cb : Vec Ideal S8192x32 .fp8e4m3) (Cs : Vec Ideal S8192 .f32) (n : Fin 8192) : EReal :=
  ((Cs (ix1 n) : EReal) * Cs (ix1 n)) * ∑ d : Fin 32, (Cb (ix2 n d) : EReal) * Cb (ix2 n d)

/-- The distance of code `n` from token `T`, the token's own term left out. -/
def distT (X : Vec Ideal S12x4096x32 .fp8e4m3) (Xs : Vec Ideal S12x4096 .f32) (Cb : Vec Ideal S8192x32 .fp8e4m3) (Cs : Vec Ideal S8192 .f32) (T n : ℕ) : EReal :=
  codeT Cb Cs (codeRow n) - ((∑ d : Fin 32, (Cb (ix2 (codeRow n) d) : EReal) * X (ix3 (tokB T) (tokS T) d)) * (two * (Cs (ix1 (codeRow n)) : EReal))) * (Xs (ix2 (tokB T) (tokS T)) : EReal)

/-- Token `T`'s smallest distance, as the kernel computes it. -/
def bestTok (X : Vec Ideal S12x4096x32 .fp8e4m3) (Xs : Vec Ideal S12x4096 .f32) (Cb : Vec Ideal S8192x32 .fp8e4m3) (Cs : Vec Ideal S8192 .f32) (T : ℕ) : EReal :=
  tokT X Xs T + TwoMin.least (Finset.range 8192) (distT X Xs Cb Cs T)

/-- Token `T`'s gap between its two smallest distances, as the kernel computes it. -/
def gapTok (X : Vec Ideal S12x4096x32 .fp8e4m3) (Xs : Vec Ideal S12x4096 .f32) (Cb : Vec Ideal S8192x32 .fp8e4m3) (Cs : Vec Ideal S8192 .f32) (T : ℕ) : EReal :=
  (tokT X Xs T + TwoMin.second (Finset.range 8192) (distT X Xs Cb Cs T)) - bestTok X Xs Cb Cs T

/-- The two results, at rows of 4096 tokens. -/
def bestTokArr (X : Vec Ideal S12x4096x32 .fp8e4m3) (Xs : Vec Ideal S12x4096 .f32) (Cb : Vec Ideal S8192x32 .fp8e4m3) (Cs : Vec Ideal S8192 .f32) : Vec Ideal S12x4096 .f32 :=
  fun y => bestTok X Xs Cb Cs (4096 * (y 0).val + (y 1).val)
/-- And the second, the gaps. -/
def gapTokArr (X : Vec Ideal S12x4096x32 .fp8e4m3) (Xs : Vec Ideal S12x4096 .f32) (Cb : Vec Ideal S8192x32 .fp8e4m3) (Cs : Vec Ideal S8192 .f32) : Vec Ideal S12x4096 .f32 :=
  fun y => gapTok X Xs Cb Cs (4096 * (y 0).val + (y 1).val)

/-- Rows of 4096 tokens, read from tiles of 256. -/
theorem rows_cast (A : Vec Ideal S192x1x256 .f32) (b : Fin 12) (s : Fin 4096) : shapeCast S12x4096 A shapeCasts_S192x1x256_S12x4096 (ix2 b s)
    = A (ix3 ⟨(4096 * b.val + s.val) / 256, by omega⟩ 0 ⟨(4096 * b.val + s.val) % 256, Nat.mod_lt _ (by decide)⟩) := by
  refine shapeCast_apply A _ _ _ ?_
  rw [Shape.rowMajor_val_two, Shape.rowMajor_val_three]
  show ((4096 * b.val + s.val) / 256 * 1 + 0) * 256 + (4096 * b.val + s.val) % 256 = b.val * 4096 + s.val
  omega

variable (m : (ℓ : Loc nD τ sig) → Buf (Elt Ideal) ℓ) (ρ : Dev nD → PrngReg)

/-- A tile's own terms are its tokens'. -/
theorem tok_tile (c : Dev nD) (t : Fin cfg0.N) (j : Fin 256) :
    tokTerm (iblk m c 0 t) (iblk m c 1 t) j = tokT (argX m c) (argXs m c) (256 * t.val + j.val) := by
  unfold tokTerm tokT
  rw [blk1_apply]
  refine congrArg (fun z : EReal => _ * z) (Finset.sum_congr rfl fun d _ => ?_)
  rw [blk0_apply]

/-- A tile's distances are its tokens'. -/
theorem dist_tile (c : Dev nD) (t : Fin cfg0.N) (j : Fin 256) :
    dist (iblk m c 0 t) (iblk m c 1 t) (argCb m c) (termG (argCb m c) (colCs m c)) (twiceG (colCs m c)) j = distT (argX m c) (argXs m c) (argCb m c) (argCs m c) (256 * t.val + j.val) := by
  funext n
  unfold dist distT
  rw [blk1_apply]
  have e1 : termG (argCb m c) (colCs m c) (ix2 (codeRow n) (laneOf j)) = codeT (argCb m c) (argCs m c) (codeRow n) := by
    show codeTerm (argCb m c) (colCs m c) (codeRow n) = _
    unfold codeTerm codeT
    rw [colCs_apply]
  have e2 : twiceG (colCs m c) (ix2 (codeRow n) (laneOf j)) = two * (argCs m c (ix1 (codeRow n)) : EReal) := by
    show two * (colCs m c (ix2 (codeRow n) 0) : EReal) = _
    rw [colCs_apply]
  rw [e1, e2]
  simp only [blk0_apply m c t j]

/-- What point `t` leaves at lane `j` of its first output tile is that token's smallest distance, -/
theorem best_tile (c : Dev nD) (t : Fin cfg0.N) (j : Fin 256) :
    bestOf (iblk m c 0 t) (iblk m c 1 t) (argCb m c) (termG (argCb m c) (colCs m c)) (twiceG (colCs m c)) j = bestTok (argX m c) (argXs m c) (argCb m c) (argCs m c) (256 * t.val + j.val) := by
  unfold bestOf bestTok
  rw [tok_tile, dist_tile]

/-- and of its second, that token's gap. -/
theorem gap_tile (c : Dev nD) (t : Fin cfg0.N) (j : Fin 256) :
    gapOf (iblk m c 0 t) (iblk m c 1 t) (argCb m c) (termG (argCb m c) (colCs m c)) (twiceG (colCs m c)) j = gapTok (argX m c) (argXs m c) (argCb m c) (argCs m c) (256 * t.val + j.val) := by
  unfold gapOf gapTok
  rw [tok_tile, dist_tile, best_tile]

/-- The first result's array after the run, tile by tile. -/
def tiles4 (c : Dev nD) : Buf (Elt Ideal) ((c : Thread nD τ).loc main_v3_0) :=
  (fun y => bestTok (argX m c) (argXs m c) (argCb m c) (argCs m c) (256 * (y 0).val + (y 2).val) : S192x1x256.Idx → EReal)

/-- What point `t` writes back is its block of that array. -/
theorem flushed4_eq (c : Dev nD) (t : Fin cfg0.N) (hf : (cfg0.win 4).flush t = true) :
    (dats (F := Ideal) m 0 c).flushed 4 t = ((cfg0.win 4).blk t).view.read (Elt Ideal) (tiles4 m c) := by
  have hi := index4 t
  show (cfg0.win 4).cut (grid0.coords t) ((dats m 0 c).after 4 t) = _
  rw [after0_4]
  funext y
  obtain ⟨j, rfl⟩ : ∃ j : Fin 256, y = ix3 0 0 j := ⟨y 2, funext fun b => by
    match b with
    | ⟨0, _⟩ => exact Subsingleton.elim (α := Fin 1) _ _
    | ⟨1, _⟩ => exact Subsingleton.elim (α := Fin 1) _ _
    | ⟨2, _⟩ => rfl⟩
  rw [View.read_apply]
  refine (outs4 m c t j).trans ((best_tile m c t j).trans ?_)
  show _ = bestTok _ _ _ _ (256 * (win0_4.index t 0 * 1 + 1 * 0) + (win0_4.index t 2 * 256 + 1 * j.val))
  rw [hi]
  refine congrArg (bestTok _ _ _ _) ?_
  show 256 * t.val + j.val = 256 * (t.val * 1 + 1 * 0) + (0 * 256 + 1 * j.val)
  omega

/-- So the array ends holding those tiles. -/
theorem final4 (c : Dev nD) : (dats (F := Ideal) m 0 c).arrAt 4 cfg0.N = tiles4 m c :=
  (dats m 0 c).arrAt_eq_of_cover 4 (tiles4 m c) (flushed4_eq m c) fun i => by
    have h0 : (i 0 : Nat) < 192 := (i 0).isLt
    have h1 : (i 1 : Nat) < 1 := (i 1).isLt
    have h2 : (i 2 : Nat) < 256 := (i 2).isLt
    have hN : cfg0.N = 192 := N_0
    obtain ⟨t, ht⟩ : ∃ t : Fin cfg0.N, t.val = (i 0 : Nat) := ⟨⟨(i 0 : Nat), lt_of_lt_of_eq h0 hN.symm⟩, rfl⟩
    refine ⟨t, flush0_4 t, ?_⟩
    have hi := index4 t
    show i ∈ ((View.whole main_v3_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [hi]; show t.val * 1 ≤ (i 0 : Nat) ∧ (i 0 : Nat) < t.val * 1 + 1; omega
    | ⟨1, _⟩ => show win0_4.index t 1 * 1 ≤ (i 1 : Nat) ∧ (i 1 : Nat) < win0_4.index t 1 * 1 + 1
                rw [hi]; show 0 * 1 ≤ (i 1 : Nat) ∧ (i 1 : Nat) < 0 * 1 + 1; omega
    | ⟨2, _⟩ => show win0_4.index t 2 * 256 ≤ (i 2 : Nat) ∧ (i 2 : Nat) < win0_4.index t 2 * 256 + 256
                rw [hi]; show 0 * 256 ≤ (i 2 : Nat) ∧ (i 2 : Nat) < 0 * 256 + 256; omega

/-- And the first result, reshaped to rows of tokens. -/
theorem result4 (c : Dev nD) : Pipeline.afterTail₀ cfgs (dats (F := Ideal) m) 0 (V0 m) [hostOps1] c main_v4 = bestTokArr (argX m c) (argXs m c) (argCb m c) (argCs m c) := by
  have e : Pipeline.afterTail₀ cfgs (dats (F := Ideal) m) 0 (V0 m) [hostOps1] c main_v4 = shapeCast S12x4096 (tiles4 m c : Vec Ideal S192x1x256 .f32) shapeCasts_S192x1x256_S12x4096 := by
    unfold Pipeline.afterTail₀
    simp only [hostOps1, List.flatten_cons, List.flatten_nil, List.append_nil]
    after_results
    have hA := (Pipeline.withArrays_arr spec0 launch0.win.arr_inj c (V0 m c) (fun w => (dats (F := Ideal) m 0 c).arrAt w cfg0.N) 4).trans (final4 m c)
    exact congrArg (fun A : Vec Ideal S192x1x256 .f32 => shapeCast S12x4096 A shapeCasts_S192x1x256_S12x4096) hA
  rw [e]
  funext y
  obtain ⟨b, s, rfl⟩ : ∃ (b : Fin 12) (s : Fin 4096), y = ix2 b s := ⟨y 0, y 1, funext fun a => by match a with | ⟨0, _⟩ => rfl | ⟨1, _⟩ => rfl⟩
  rw [rows_cast]
  show bestTok _ _ _ _ (256 * ((4096 * b.val + s.val) / 256) + (4096 * b.val + s.val) % 256) = bestTok _ _ _ _ (4096 * b.val + s.val)
  exact congrArg (bestTok _ _ _ _) (by omega)

/-- The second result's array after the run, tile by tile. -/
def tiles5 (c : Dev nD) : Buf (Elt Ideal) ((c : Thread nD τ).loc main_v3_1) :=
  (fun y => gapTok (argX m c) (argXs m c) (argCb m c) (argCs m c) (256 * (y 0).val + (y 2).val) : S192x1x256.Idx → EReal)

/-- What point `t` writes back is its block of that array. -/
theorem flushed5_eq (c : Dev nD) (t : Fin cfg0.N) (hf : (cfg0.win 5).flush t = true) :
    (dats (F := Ideal) m 0 c).flushed 5 t = ((cfg0.win 5).blk t).view.read (Elt Ideal) (tiles5 m c) := by
  have hi := index5 t
  show (cfg0.win 5).cut (grid0.coords t) ((dats m 0 c).after 5 t) = _
  rw [after0_5]
  funext y
  obtain ⟨j, rfl⟩ : ∃ j : Fin 256, y = ix3 0 0 j := ⟨y 2, funext fun b => by
    match b with
    | ⟨0, _⟩ => exact Subsingleton.elim (α := Fin 1) _ _
    | ⟨1, _⟩ => exact Subsingleton.elim (α := Fin 1) _ _
    | ⟨2, _⟩ => rfl⟩
  rw [View.read_apply]
  refine (outs5 m c t j).trans ((gap_tile m c t j).trans ?_)
  show _ = gapTok _ _ _ _ (256 * (win0_5.index t 0 * 1 + 1 * 0) + (win0_5.index t 2 * 256 + 1 * j.val))
  rw [hi]
  refine congrArg (gapTok _ _ _ _) ?_
  show 256 * t.val + j.val = 256 * (t.val * 1 + 1 * 0) + (0 * 256 + 1 * j.val)
  omega

/-- So the array ends holding those tiles. -/
theorem final5 (c : Dev nD) : (dats (F := Ideal) m 0 c).arrAt 5 cfg0.N = tiles5 m c :=
  (dats m 0 c).arrAt_eq_of_cover 5 (tiles5 m c) (flushed5_eq m c) fun i => by
    have h0 : (i 0 : Nat) < 192 := (i 0).isLt
    have h1 : (i 1 : Nat) < 1 := (i 1).isLt
    have h2 : (i 2 : Nat) < 256 := (i 2).isLt
    have hN : cfg0.N = 192 := N_0
    obtain ⟨t, ht⟩ : ∃ t : Fin cfg0.N, t.val = (i 0 : Nat) := ⟨⟨(i 0 : Nat), lt_of_lt_of_eq h0 hN.symm⟩, rfl⟩
    refine ⟨t, flush0_5 t, ?_⟩
    have hi := index5 t
    show i ∈ ((View.whole main_v3_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [hi]; show t.val * 1 ≤ (i 0 : Nat) ∧ (i 0 : Nat) < t.val * 1 + 1; omega
    | ⟨1, _⟩ => show win0_5.index t 1 * 1 ≤ (i 1 : Nat) ∧ (i 1 : Nat) < win0_5.index t 1 * 1 + 1
                rw [hi]; show 0 * 1 ≤ (i 1 : Nat) ∧ (i 1 : Nat) < 0 * 1 + 1; omega
    | ⟨2, _⟩ => show win0_5.index t 2 * 256 ≤ (i 2 : Nat) ∧ (i 2 : Nat) < win0_5.index t 2 * 256 + 256
                rw [hi]; show 0 * 256 ≤ (i 2 : Nat) ∧ (i 2 : Nat) < 0 * 256 + 256; omega

/-- And the second result, reshaped to rows of tokens. -/
theorem result5 (c : Dev nD) : Pipeline.afterTail₀ cfgs (dats (F := Ideal) m) 0 (V0 m) [hostOps1] c main_v5 = gapTokArr (argX m c) (argXs m c) (argCb m c) (argCs m c) := by
  have e : Pipeline.afterTail₀ cfgs (dats (F := Ideal) m) 0 (V0 m) [hostOps1] c main_v5 = shapeCast S12x4096 (tiles5 m c : Vec Ideal S192x1x256 .f32) shapeCasts_S192x1x256_S12x4096 := by
    unfold Pipeline.afterTail₀
    simp only [hostOps1, List.flatten_cons, List.flatten_nil, List.append_nil]
    after_results
    have hA := (Pipeline.withArrays_arr spec0 launch0.win.arr_inj c (V0 m c) (fun w => (dats (F := Ideal) m 0 c).arrAt w cfg0.N) 5).trans (final5 m c)
    exact congrArg (fun A : Vec Ideal S192x1x256 .f32 => shapeCast S12x4096 A shapeCasts_S192x1x256_S12x4096) hA
  rw [e]
  funext y
  obtain ⟨b, s, rfl⟩ : ∃ (b : Fin 12) (s : Fin 4096), y = ix2 b s := ⟨y 0, y 1, funext fun a => by match a with | ⟨0, _⟩ => rfl | ⟨1, _⟩ => rfl⟩
  rw [rows_cast]
  show gapTok _ _ _ _ (256 * ((4096 * b.val + s.val) / 256) + (4096 * b.val + s.val) % 256) = gapTok _ _ _ _ (4096 * b.val + s.val)
  exact congrArg (gapTok _ _ _ _) (by omega)

/-- The run: the two results as these functions of the arguments, the arguments unchanged. -/
theorem run_value : θ_run defs (onTc (τ := τ) (main (F := Ideal))) ⟨m, fun _ => 0, ρ⟩ (fun r => ∀ c : Dev nD,
      r.2.mem ((c.tc : Thread nD τ).loc main_v4) = bestTokArr (argX m c) (argXs m c) (argCb m c) (argCs m c)
      ∧ r.2.mem ((c.tc : Thread nD τ).loc main_v5) = gapTokArr (argX m c) (argXs m c) (argCb m c) (argCs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h.2 c).2 main_v4 (Pipeline.mem_restRefs_of main_v4 (by decide) (by decide))).trans (result4 m c)),
      (((h.2 c).2 main_v5 (Pipeline.mem_restRefs_of main_v5 (by decide) (by decide))).trans (result5 m c)), h.1 c⟩)
    (θ_run_and (unchanged m ρ) (run_main m ρ))

end Cert.KernelIdeal.Hand
end
-- ==== Proof.RefDist.lean ====
/- The reference's table of distances: the lines between the widened codes and the selection, and their value at a
   token and a code. -/
module

public import proofs.«01_k».proof.Proof.Gen.ReferenceIdeal.Frame
public import proofs.«01_k».proof.Proof.Gen.ReferenceIdeal
public import Idealize.ShloMosaic.Lib.MatmulPlain
public import Idealize.ShloMosaic.Lib.Pointwise.Tactic
public import Idealize.ShloMosaic.Lib.Pointwise.Reduce
public import Idealize.ShloMosaic.Lib.ValueIdx
public import Idealize.ShloMosaic.Lib.Pipeline.Value

@[expose] public section

-- membership in a rectangle of production extents (`View.cover_of_tiled`): the elaborator's structural look
-- recurses once per coordinate of the long axes
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The token codes' rows. -/
def refRows (A : Vec Ideal S12x4096x32 .f32) : Vec Ideal S49152x32 .f32 := shapeCast S49152x32 A shapeCasts_S12x4096x32_S49152x32
/-- The tokens' scales in one row. -/
def refScales (Xs : Vec Ideal S12x4096 .f32) : Vec Ideal S49152 .f32 := shapeCast S49152 Xs shapeCasts_S12x4096_S49152

/-- The tokens' own terms. -/
def refTok (A : Vec Ideal S12x4096x32 .f32) (Xs : Vec Ideal S12x4096 .f32) : Vec Ideal S49152 .f32 :=
  mulf (F := Ideal) (φ := .f32) (mulf (F := Ideal) (φ := .f32) (refScales Xs) (refScales Xs))
    (Host.reduceAdd (F := Ideal) (φ := .f32) (mulf (F := Ideal) (φ := .f32) (refRows A) (refRows A)) (constant (F := Ideal) S_ .f32 0x00000000#32) reducesTo_S49152x32_S49152_d1 h_S_)
/-- The codes' own terms. -/
def refCode (B : Vec Ideal S8192x32 .f32) (Cs : Vec Ideal S8192 .f32) : Vec Ideal S8192 .f32 :=
  mulf (F := Ideal) (φ := .f32) (mulf (F := Ideal) (φ := .f32) Cs Cs)
    (Host.reduceAdd (F := Ideal) (φ := .f32) (mulf (F := Ideal) (φ := .f32) B B) (constant (F := Ideal) S_ .f32 0x00000000#32) reducesTo_S8192x32_S8192_d1 h_S_)

/-- A number per token, on every code. -/
def refDown (v : Vec Ideal S49152 .f32) : Vec Ideal S49152x8192 .f32 :=
  broadcastInDim S49152x8192 ![0, 1] bcast_S49152x1_S49152x8192_0_1 (broadcastInDim S49152x1 ![0] bcast_S49152_S49152x1_0 v)
/-- A number per code, on every token. -/
def refAcross (v : Vec Ideal S8192 .f32) : Vec Ideal S49152x8192 .f32 :=
  broadcastInDim S49152x8192 ![0, 1] bcast_S1x8192_S49152x8192_0_1 (broadcastInDim S1x8192 ![1] bcast_S8192_S1x8192_1 v)

/-- The products of token and code rows. -/
def refDot (A : Vec Ideal S12x4096x32 .f32) (B : Vec Ideal S8192x32 .f32) : Vec Ideal S49152x8192 .f32 :=
  Host.dotGeneral (F := Ideal) (φ₁ := .f32) (φ₂ := .f32) dot_S49152x32_S8192x32_S49152x8192_1_1_0_0_n_n none (refRows A) B

/-- The table of distances. -/
def refDist (A : Vec Ideal S12x4096x32 .f32) (Xs : Vec Ideal S12x4096 .f32) (B : Vec Ideal S8192x32 .f32) (Cs : Vec Ideal S8192 .f32) : Vec Ideal S49152x8192 .f32 :=
  subf (F := Ideal) (φ := .f32) (addf (F := Ideal) (φ := .f32) (refDown (refTok A Xs)) (refAcross (refCode B Cs)))
    (mulf (F := Ideal) (φ := .f32) (mulf (F := Ideal) (φ := .f32)
        (broadcastInDim S49152x8192 ![] bcast_S_S49152x8192 (constant (F := Ideal) S_ .f32 0x40000000#32))
        (mulf (F := Ideal) (φ := .f32) (refDown (refScales Xs)) (refAcross Cs)))
      (refDot A B))

/-- Row and column of token `T`. -/
def rowOf (T : Fin 49152) : Fin 12 := ⟨T.val / 4096, by omega⟩
/-- And its column. -/
def colOf (T : Fin 49152) : Fin 4096 := ⟨T.val % 4096, Nat.mod_lt _ (by decide)⟩

/-- A token's row of codes is the argument's at its row and column. -/
theorem refRows_apply (A : Vec Ideal S12x4096x32 .f32) (T : Fin 49152) (d : Fin 32) : refRows A (ix2 T d) = A (ix3 (rowOf T) (colOf T) d) := by
  unfold refRows
  refine shapeCast_apply _ _ _ _ ?_
  rw [Shape.rowMajor_val_three, Shape.rowMajor_val_two]
  show ((T.val / 4096) * 4096 + T.val % 4096) * 32 + d.val = T.val * 32 + d.val
  omega

/-- So is its scale. -/
theorem refScales_apply (Xs : Vec Ideal S12x4096 .f32) (T : Fin 49152) : refScales Xs (ix1 T) = Xs (ix2 (rowOf T) (colOf T)) := by
  unfold refScales
  refine shapeCast_apply _ _ _ _ ?_
  rw [Shape.rowMajor_val_two, Shape.rowMajor_val_one]
  show (T.val / 4096) * 4096 + T.val % 4096 = T.val
  omega

/-- A number per token, read at a token and a code. -/
theorem refDown_apply (v : Vec Ideal S49152 .f32) (T : Fin 49152) (n : Fin 8192) : refDown v (ix2 T n) = v (ix1 T) := by
  unfold refDown
  refine (broadcastInDim_apply _ _ _ _ (ix2 T 0) ?_).trans (broadcastInDim_apply _ _ _ _ (ix1 T) ?_)
  · intro a; match a with | ⟨0, _⟩ => rfl | ⟨1, _⟩ => rfl
  · intro a; match a with | ⟨0, _⟩ => rfl

/-- A number per code, read at a token and a code. -/
theorem refAcross_apply (v : Vec Ideal S8192 .f32) (T : Fin 49152) (n : Fin 8192) : refAcross v (ix2 T n) = v (ix1 n) := by
  unfold refAcross
  refine (broadcastInDim_apply _ _ _ _ (ix2 0 n) ?_).trans (broadcastInDim_apply _ _ _ _ (ix1 n) ?_)
  · intro a; match a with | ⟨0, _⟩ => rfl | ⟨1, _⟩ => rfl
  · intro a; match a with | ⟨0, _⟩ => rfl

/-- The sums start from zero. -/
theorem zero_const : (constant (F := Ideal) S_ .f32 0x00000000#32 (Shape.Idx.first h_S_) : EReal) = 0 := Ideal.ofBits_zero_f32

/-- A token's own term: its scale squared times the sum of its codes' squares. -/
theorem refTok_apply (A : Vec Ideal S12x4096x32 .f32) (Xs : Vec Ideal S12x4096 .f32) (T : Fin 49152) :
    refTok A Xs (ix1 T) = ((Xs (ix2 (rowOf T) (colOf T)) : EReal) * Xs (ix2 (rowOf T) (colOf T)))
      * ∑ d : Fin 32, (A (ix3 (rowOf T) (colOf T) d) : EReal) * A (ix3 (rowOf T) (colOf T) d) := by
  unfold refTok
  rw [ValueIdx.mulf_apply, ValueIdx.mulf_apply, refScales_apply]
  refine congrArg (((Xs (ix2 (rowOf T) (colOf T)) : EReal) * Xs (ix2 (rowOf T) (colOf T))) * ·) ?_
  rw [Host.reduceAdd_apply, zero_const]
  refine (Ideal.hostReduceAdd_r2_a1 reducesTo_S49152x32_S49152_d1 _ 0 (ix1 T)).trans ((zero_add _).trans (Finset.sum_congr rfl fun d _ => ?_))
  rw [ValueIdx.mulf_apply]
  exact congrArg₂ (fun a b : EReal => a * b) (refRows_apply A T d) (refRows_apply A T d)

/-- A code's own term, likewise. -/
theorem refCode_apply (B : Vec Ideal S8192x32 .f32) (Cs : Vec Ideal S8192 .f32) (n : Fin 8192) :
    refCode B Cs (ix1 n) = ((Cs (ix1 n) : EReal) * Cs (ix1 n)) * ∑ d : Fin 32, (B (ix2 n d) : EReal) * B (ix2 n d) := by
  unfold refCode
  rw [ValueIdx.mulf_apply, ValueIdx.mulf_apply]
  refine congrArg (((Cs (ix1 n) : EReal) * Cs (ix1 n)) * ·) ?_
  rw [Host.reduceAdd_apply, zero_const]
  exact (Ideal.hostReduceAdd_r2_a1 reducesTo_S8192x32_S8192_d1 _ 0 (ix1 n)).trans (zero_add _)

/-- The product of a token's and a code's rows. -/
theorem refDot_apply (A : Vec Ideal S12x4096x32 .f32) (B : Vec Ideal S8192x32 .f32) (T : Fin 49152) (n : Fin 8192) :
    refDot A B (ix2 T n) = ∑ d : Fin 32, (A (ix3 (rowOf T) (colOf T) d) : EReal) * B (ix2 n d) := by
  unfold refDot
  simp only [Host.dotGeneral]
  refine (Ideal.dotGeneral_apply (DotDims.transposedRhs 49152 32 8192) none _ (refRows A) B (ix2 T n)).trans ?_
  rw [← Equiv.sum_comp (DotDims.transposedRhsContr 49152 32 8192).symm]
  refine Finset.sum_congr rfl fun k _ => ?_
  have hk := ValueIdx.contrEquiv1_symm_val _ 32 (DotDims.transposedRhs_contr_rank 49152 32 8192) (DotDims.transposedRhs_contr_size 49152 32 8192) k
  have el : (DotDims.transposedRhs 49152 32 8192).lhsIdx (ix2 T n) ((DotDims.transposedRhsContr 49152 32 8192).symm k) = ix2 T k := by
    funext a; apply Fin.ext
    match a with
    | ⟨0, _⟩ => rfl
    | ⟨1, _⟩ => exact hk
  have er : (DotDims.transposedRhs 49152 32 8192).rhsIdx (ix2 T n) ((DotDims.transposedRhsContr 49152 32 8192).symm k) = ix2 n k := by
    funext a; apply Fin.ext
    match a with
    | ⟨0, _⟩ => rfl
    | ⟨1, _⟩ => exact hk
  rw [el, er]
  exact congrArg (fun a : EReal => a * (B (ix2 n k) : EReal)) (refRows_apply A T k)

/-- The distance of code `n` from token `T`, as the reference computes it. -/
theorem refDist_apply (A : Vec Ideal S12x4096x32 .f32) (Xs : Vec Ideal S12x4096 .f32) (B : Vec Ideal S8192x32 .f32) (Cs : Vec Ideal S8192 .f32) (T : Fin 49152) (n : Fin 8192) :
    (refDist A Xs B Cs (ix2 T n) : EReal)
      = ((((Xs (ix2 (rowOf T) (colOf T)) : EReal) * Xs (ix2 (rowOf T) (colOf T))) * ∑ d : Fin 32, (A (ix3 (rowOf T) (colOf T) d) : EReal) * A (ix3 (rowOf T) (colOf T) d))
          + (((Cs (ix1 n) : EReal) * Cs (ix1 n)) * ∑ d : Fin 32, (B (ix2 n d) : EReal) * B (ix2 n d)))
        - (FloatOps.ofBits (F := Ideal) FTy.f32 0x40000000#32 * ((Xs (ix2 (rowOf T) (colOf T)) : EReal) * Cs (ix1 n)))
          * ∑ d : Fin 32, (A (ix3 (rowOf T) (colOf T) d) : EReal) * B (ix2 n d) := by
  have h1 := refDown_apply (refTok A Xs) T n
  have h2 := refAcross_apply (refCode B Cs) T n
  have h3 := refDown_apply (refScales Xs) T n
  have h4 := refAcross_apply Cs T n
  rw [refTok_apply] at h1
  rw [refCode_apply] at h2
  rw [refScales_apply] at h3
  unfold refDist
  rw [ValueIdx.subf_apply, ValueIdx.addf_apply, ValueIdx.mulf_apply, ValueIdx.mulf_apply, ValueIdx.mulf_apply, h1, h2, h3, h4, refDot_apply]
  rfl

end Cert.ReferenceIdeal.Hand
end
-- ==== Proof.RefTop.lean ====
/- The reference's selection: the two first of the negated distances in falling order, read as the two smallest
   distances of a token. -/
module

public import proofs.«01_k».proof.Proof.Gen.ReferenceIdeal.Frame
public import proofs.«01_k».proof.Proof.Gen.ReferenceIdeal
public import Idealize.ShloMosaic.Lib.SortFacts
public import Idealize.ShloMosaic.Lib.Pointwise.Tactic
public import Idealize.ShloMosaic.Lib.ValueIdx
public import Idealize.ShloMosaic.Lib.Pipeline.Value

@[expose] public section

-- membership in a rectangle of production extents (`View.cover_of_tiled`): the elaborator's structural look
-- recurses once per coordinate of the long axes
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Whether code `k` comes before code `k'` in the order of token `T`'s row of `x`: the greater value first. -/
def before (x : Vec Ideal S49152x8192 .f32) (T : Fin 49152) (k k' : Fin 8192) : Bool :=
  FloatOps.cmpfTotal (F := Ideal) (φ := .f32) .gt (x (ix2 T k)) (x (ix2 T k')) == 1#1

/-- That order is by the values, the greater first. -/
theorem before_iff (x : Vec Ideal S49152x8192 .f32) (T : Fin 49152) (k k' : Fin 8192) :
    before x T k k' = true ↔ (x (ix2 T k') : EReal) < x (ix2 T k) := by
  unfold before
  show (BitVec.ofBool (decide ((x (ix2 T k') : EReal) < x (ix2 T k))) == 1#1) = true ↔ _
  by_cases h : (x (ix2 T k') : EReal) < x (ix2 T k)
  · simp [h]
  · simp [h]

/-- The code at place `i` of that order. -/
def place (x : Vec Ideal S49152x8192 .f32) (T : Fin 49152) (i : Fin 8192) : Fin 8192 := sortedFrom (before x T) i

/-- No code is at two places. -/
theorem place_injective (x : Vec Ideal S49152x8192 .f32) (T : Fin 49152) : Function.Injective (place x T) :=
  sortedFrom_injective _

/-- A later place holds no greater value. -/
theorem place_le (x : Vec Ideal S49152x8192 .f32) (T : Fin 49152) (i j : Fin 8192) (h : i < j) :
    (x (ix2 T (place x T j)) : EReal) ≤ x (ix2 T (place x T i)) := by
  have e := sortedFrom_noInversion (before x T) (before x T)
    (fun a b hab => by
      rw [← Bool.not_eq_true, before_iff]
      exact not_lt_of_gt ((before_iff x T a b).1 hab))
    (fun _ _ hab => hab)
    (fun a b c hab hbc => by
      rw [← Bool.not_eq_true, before_iff] at hab hbc ⊢
      exact not_lt.2 ((not_lt.1 hab).trans (not_lt.1 hbc))) i j h
  rw [← Bool.not_eq_true, before_iff] at e
  exact not_lt.1 e

/-- A place among the two, as a place among all. -/
def wide (k : Fin 2) : Fin 8192 := ⟨k.val, by omega⟩

/-- The two greatest of a row, read. -/
theorem topK_apply (x : Vec Ideal S49152x8192 .f32) (T : Fin 49152) (k : Fin 2) :
    (Host.topK S49152x2 1 (FloatOps.cmpfTotal (F := Ideal) (φ := .f32) .gt) x sliceFits_S49152x8192_S49152x2).1 (ix2 T k)
      = x (ix2 T (place x T (wide k))) := by
  unfold Host.topK
  dsimp only
  refine (extractStridedSlice_apply _ _ _ _ (ix2 T (wide k)) ?_).trans ?_
  · intro a; match a with | ⟨0, _⟩ => exact (Nat.zero_add _).symm | ⟨1, _⟩ => exact (Nat.zero_add _).symm
  · have hal : ∀ (i k' : Fin 8192), (ix2 T i : S49152x8192.Idx).along 1 k' = ix2 T k' := fun i k' => by
      funext a
      match a with
      | ⟨0, _⟩ => rfl
      | ⟨1, _⟩ => rfl
    have hR : (fun k₁ k₂ : Fin 8192 => FloatOps.cmpfTotal (F := Ideal) (φ := .f32) .gt (x ((ix2 T (wide k) : S49152x8192.Idx).along 1 k₁)) (x ((ix2 T (wide k) : S49152x8192.Idx).along 1 k₂)) == 1#1)
        = before x T := by
      funext k₁ k₂; rw [hal, hal]; rfl
    show x ((ix2 T (wide k) : S49152x8192.Idx).along 1 (sortedFrom (fun k₁ k₂ : Fin 8192 => FloatOps.cmpfTotal (F := Ideal) (φ := .f32) .gt (x ((ix2 T (wide k) : S49152x8192.Idx).along 1 k₁)) (x ((ix2 T (wide k) : S49152x8192.Idx).along 1 k₂)) == 1#1) (wide k))) = _
    rw [hR]
    exact congrArg x (hal (wide k) _)

/-- The smallest distance of each token, as the reference takes it from the table `D`, -/
def refFirst (D : Vec Ideal S49152x8192 .f32) : Vec Ideal S49152 .f32 :=
  Host.negf (F := Ideal) (φ := .f32) (shapeCast S49152 (extractStridedSlice S49152x1 ![0, 0]
    (Host.topK S49152x2 1 (FloatOps.cmpfTotal (F := Ideal) (φ := .f32) .gt) (Host.negf (F := Ideal) (φ := .f32) D) sliceFits_S49152x8192_S49152x2).1
    slices_S49152x2_S49152x1_0_0) shapeCasts_S49152x1_S49152)
/-- and the second smallest. -/
def refSecond (D : Vec Ideal S49152x8192 .f32) : Vec Ideal S49152 .f32 :=
  Host.negf (F := Ideal) (φ := .f32) (shapeCast S49152 (extractStridedSlice S49152x1 ![0, 1]
    (Host.topK S49152x2 1 (FloatOps.cmpfTotal (F := Ideal) (φ := .f32) .gt) (Host.negf (F := Ideal) (φ := .f32) D) sliceFits_S49152x8192_S49152x2).1
    slices_S49152x2_S49152x1_0_1) shapeCasts_S49152x1_S49152)

/-- The code a token's order puts at place `i`, the smaller distance first. -/
def rank (D : Vec Ideal S49152x8192 .f32) (T : Fin 49152) (i : Fin 8192) : Fin 8192 := place (Host.negf (F := Ideal) (φ := .f32) D) T i

/-- A later place holds no smaller distance. -/
theorem rank_le (D : Vec Ideal S49152x8192 .f32) (T : Fin 49152) (i j : Fin 8192) (h : i < j) :
    (D (ix2 T (rank D T i)) : EReal) ≤ D (ix2 T (rank D T j)) :=
  EReal.neg_le_neg_iff.1 (place_le (Host.negf (F := Ideal) (φ := .f32) D) T i j h)

/-- A one-column array read as a row. -/
theorem column_cast (A : Vec Ideal S49152x1 .f32) (T : Fin 49152) : shapeCast S49152 A shapeCasts_S49152x1_S49152 (ix1 T) = A (ix2 T 0) := by
  refine shapeCast_apply _ _ _ _ ?_
  rw [Shape.rowMajor_val_two, Shape.rowMajor_val_one]
  show T.val * 1 + 0 = T.val
  omega

/-- The first result at a token is the distance at its first place, -/
theorem refFirst_apply (D : Vec Ideal S49152x8192 .f32) (T : Fin 49152) : (refFirst D (ix1 T) : EReal) = D (ix2 T (rank D T 0)) := by
  have e : shapeCast S49152 (extractStridedSlice S49152x1 ![0, 0]
      (Host.topK S49152x2 1 (FloatOps.cmpfTotal (F := Ideal) (φ := .f32) .gt) (Host.negf (F := Ideal) (φ := .f32) D) sliceFits_S49152x8192_S49152x2).1
      slices_S49152x2_S49152x1_0_0) shapeCasts_S49152x1_S49152 (ix1 T) = Host.negf (F := Ideal) (φ := .f32) D (ix2 T (rank D T 0)) := by
    refine (column_cast _ T).trans ((extractStridedSlice_apply _ _ _ _ (ix2 T 0) ?_).trans (topK_apply _ T 0))
    intro a; match a with | ⟨0, _⟩ => exact (Nat.zero_add _).symm | ⟨1, _⟩ => rfl
  exact (congrArg (fun a : EReal => -a) e).trans (neg_neg _)

/-- and the second smallest is the distance at its second place. -/
theorem refSecond_apply (D : Vec Ideal S49152x8192 .f32) (T : Fin 49152) : (refSecond D (ix1 T) : EReal) = D (ix2 T (rank D T 1)) := by
  have e : shapeCast S49152 (extractStridedSlice S49152x1 ![0, 1]
      (Host.topK S49152x2 1 (FloatOps.cmpfTotal (F := Ideal) (φ := .f32) .gt) (Host.negf (F := Ideal) (φ := .f32) D) sliceFits_S49152x8192_S49152x2).1
      slices_S49152x2_S49152x1_0_1) shapeCasts_S49152x1_S49152 (ix1 T) = Host.negf (F := Ideal) (φ := .f32) D (ix2 T (rank D T 1)) := by
    refine (column_cast _ T).trans ((extractStridedSlice_apply _ _ _ _ (ix2 T 1) ?_).trans (topK_apply _ T 1))
    intro a; match a with | ⟨0, _⟩ => exact (Nat.zero_add _).symm | ⟨1, _⟩ => rfl
  exact (congrArg (fun a : EReal => -a) e).trans (neg_neg _)

/-- The first code's distance is at most the second's, -/
theorem first_le (D : Vec Ideal S49152x8192 .f32) (T : Fin 49152) : (D (ix2 T (rank D T 0)) : EReal) ≤ D (ix2 T (rank D T 1)) :=
  rank_le D T 0 1 (by rw [Fin.lt_def]; show (0 : ℕ) < 1; decide)

/-- the two codes differ, -/
theorem first_ne (D : Vec Ideal S49152x8192 .f32) (T : Fin 49152) : rank D T 0 ≠ rank D T 1 := fun h =>
  absurd (congrArg Fin.val (place_injective _ T h)) (by show ¬ ((0 : ℕ) = 1); decide)

/-- and every other code's distance is at least the second's. -/
theorem second_le (D : Vec Ideal S49152x8192 .f32) (T : Fin 49152) (n : Fin 8192) (h0 : n ≠ rank D T 0) (h1 : n ≠ rank D T 1) :
    (D (ix2 T (rank D T 1)) : EReal) ≤ D (ix2 T n) := by
  obtain ⟨i, hi⟩ : ∃ i : Fin 8192, place (Host.negf (F := Ideal) (φ := .f32) D) T i = n := by
    unfold place
    exact sortedFrom_surjective _ n
  have hi' : rank D T i = n := hi
  have a0 : i ≠ 0 := fun e => h0 (hi'.symm.trans (congrArg (rank D T) e))
  have a1 : i ≠ 1 := fun e => h1 (hi'.symm.trans (congrArg (rank D T) e))
  have b0 : i.val ≠ 0 := fun e => a0 (Fin.ext e)
  have b1 : i.val ≠ 1 := fun e => a1 (Fin.ext e)
  rw [← hi']
  refine rank_le D T 1 i ?_
  rw [Fin.lt_def]
  show 1 < i.val
  omega

end Cert.ReferenceIdeal.Hand
end
-- ==== Proof.RefValue.lean ====
/- The reference's run: its two results as functions of its arguments. -/
module

public import proofs.«01_k».proof.Proof.RefDist
public import proofs.«01_k».proof.Proof.RefTop

@[expose] public section

-- membership in a rectangle of production extents (`View.cover_of_tiled`): the elaborator's structural look
-- recurses once per coordinate of the long axes
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The launched arguments. -/
abbrev argX (c : Dev nD) : Vec Ideal S12x4096x32 .fp8e4m3 := m ((c : Thread nD τ).loc main_arg0)
abbrev argXs (c : Dev nD) : Vec Ideal S12x4096 .f32 := m ((c : Thread nD τ).loc main_arg1)
abbrev argCb (c : Dev nD) : Vec Ideal S8192x32 .fp8e4m3 := m ((c : Thread nD τ).loc main_arg2)
abbrev argCs (c : Dev nD) : Vec Ideal S8192 .f32 := m ((c : Thread nD τ).loc main_arg3)

/-- Codes read as numbers of the wider format: over the extended reals, the same numbers. -/
abbrev wideX (X : Vec Ideal S12x4096x32 .fp8e4m3) : Vec Ideal S12x4096x32 .f32 := fun i => X i
/-- The same for the codebook. -/
abbrev wideC (Cb : Vec Ideal S8192x32 .fp8e4m3) : Vec Ideal S8192x32 .f32 := fun i => Cb i

/-- The grid's one point. -/
def t₀ : Fin cfg0.N := ⟨0, by decide⟩

/-- The body leaves the tokens' codes, widened, -/
theorem out2_eq (x0 : Vec Ideal S12x4096x32 .fp8e4m3) (x1 : Vec Ideal S8192x32 .fp8e4m3) : out0_2 (F := Ideal) x0 x1 = wideX x0 := by
  have hz : (![0, 0, 0] : Fin S12x4096x32.rank → Nat) = fun _ => 0 := funext fun a => by fin_cases a <;> rfl
  unfold out0_2
  rw [View.canon_unit_zero hz, View.ld_unit_zero hz]
  rfl

/-- and the codebook's. -/
theorem out3_eq (x0 : Vec Ideal S12x4096x32 .fp8e4m3) (x1 : Vec Ideal S8192x32 .fp8e4m3) : out0_3 (F := Ideal) x0 x1 = wideC x1 := by
  have hz : (![0, 0] : Fin S8192x32.rank → Nat) = fun _ => 0 := funext fun a => by fin_cases a <;> rfl
  unfold out0_3
  rw [View.canon_unit_zero hz, View.ld_unit_zero hz]
  rfl

/-- What the run leaves in output window 2's array is what the one point writes back. -/
theorem final_out2 (c : Dev nD) :
    ((cfg0.win (2 : Fin 4)).blk t₀).view.read (Elt Ideal) ((dats (F := Ideal) m 0 c).arrAt (2 : Fin 4) cfg0.N)
      = (dats (F := Ideal) m 0 c).flushed (2 : Fin 4) t₀ := by
  rw [show cfg0.N = (t₀ : Fin cfg0.N).val + 1 from rfl, (dats (F := Ideal) m 0 c).arrAt_succ (2 : Fin 4) t₀]
  rw [show (cfg0.win (2 : Fin 4)).flush t₀ = true from by decide, if_pos rfl]
  exact View.read_write_univ _ _

/-- So that array holds the argument's codes, widened. -/
theorem final2 (c : Dev nD) : (dats (F := Ideal) m 0 c).arrAt (2 : Fin 4) cfg0.N = wideX (argX m c) := by
  have ho := final_out2 m c
  have hzo : (fun a => (win0_2.index t₀) a * main_v0_0.ty.shape.size a) = fun _ => 0 :=
    funext fun a => by fin_cases a <;> decide
  have hro := fun f => Memref.read_access_unit_zero (Elt Ideal) main_v0_0 hzo (fun a => by fin_cases a <;> decide) f
  have hzi : (fun a => (win0_0.index t₀) a * main_arg0.ty.shape.size a) = fun _ => 0 :=
    funext fun a => by fin_cases a <;> decide
  have hri := fun f => Memref.read_access_unit_zero (Elt Ideal) main_arg0 hzi (fun a => by fin_cases a <;> decide) f
  rw [hro] at ho
  rw [ho]
  show (cfg0.win (2 : Fin 4)).cut _ ((dats (F := Ideal) m 0 c).after 2 t₀) = _
  rw [after0_2, out2_eq]
  unfold iblk
  rw [hri]
  rfl

/-- What the run leaves in output window 3's array is what the one point writes back. -/
theorem final_out3 (c : Dev nD) :
    ((cfg0.win (3 : Fin 4)).blk t₀).view.read (Elt Ideal) ((dats (F := Ideal) m 0 c).arrAt (3 : Fin 4) cfg0.N)
      = (dats (F := Ideal) m 0 c).flushed (3 : Fin 4) t₀ := by
  rw [show cfg0.N = (t₀ : Fin cfg0.N).val + 1 from rfl, (dats (F := Ideal) m 0 c).arrAt_succ (3 : Fin 4) t₀]
  rw [show (cfg0.win (3 : Fin 4)).flush t₀ = true from by decide, if_pos rfl]
  exact View.read_write_univ _ _

/-- So that array holds the argument's codes, widened. -/
theorem final3 (c : Dev nD) : (dats (F := Ideal) m 0 c).arrAt (3 : Fin 4) cfg0.N = wideC (argCb m c) := by
  have ho := final_out3 m c
  have hzo : (fun a => (win0_3.index t₀) a * main_v0_1.ty.shape.size a) = fun _ => 0 :=
    funext fun a => by fin_cases a <;> decide
  have hro := fun f => Memref.read_access_unit_zero (Elt Ideal) main_v0_1 hzo (fun a => by fin_cases a <;> decide) f
  have hzi : (fun a => (win0_1.index t₀) a * main_arg2.ty.shape.size a) = fun _ => 0 :=
    funext fun a => by fin_cases a <;> decide
  have hri := fun f => Memref.read_access_unit_zero (Elt Ideal) main_arg2 hzi (fun a => by fin_cases a <;> decide) f
  rw [hro] at ho
  rw [ho]
  show (cfg0.win (3 : Fin 4)).cut _ ((dats (F := Ideal) m 0 c).after 3 t₀) = _
  rw [after0_3, out3_eq]
  unfold iblk
  rw [hri]
  rfl

/-- The lines after the region, on any contents: the first result, -/
theorem tail_v33 (W : Valuation τ sig (Elt Ideal)) :
    StableHlo.after hostOps1 W (Proc.devRef .tc main_v33)
      = shapeCast S12x4096 (refFirst (refDist (W (Proc.devRef .tc main_v0_0)) (W (Proc.devRef .tc main_arg1)) (W (Proc.devRef .tc main_v0_1)) (W (Proc.devRef .tc main_arg3)))) shapeCasts_S49152_S12x4096 := by
  simp only [hostOps1]
  after_results
  rfl

/-- and the second. -/
theorem tail_v35 (W : Valuation τ sig (Elt Ideal)) :
    StableHlo.after hostOps1 W (Proc.devRef .tc main_v35)
      = shapeCast S12x4096 (subf (F := Ideal) (φ := .f32)
          (refSecond (refDist (W (Proc.devRef .tc main_v0_0)) (W (Proc.devRef .tc main_arg1)) (W (Proc.devRef .tc main_v0_1)) (W (Proc.devRef .tc main_arg3))))
          (refFirst (refDist (W (Proc.devRef .tc main_v0_0)) (W (Proc.devRef .tc main_arg1)) (W (Proc.devRef .tc main_v0_1)) (W (Proc.devRef .tc main_arg3))))) shapeCasts_S49152_S12x4096 := by
  simp only [hostOps1]
  after_results
  rfl

/-- The table of distances of the launched arguments. -/
def table (X : Vec Ideal S12x4096x32 .fp8e4m3) (Xs : Vec Ideal S12x4096 .f32) (Cb : Vec Ideal S8192x32 .fp8e4m3) (Cs : Vec Ideal S8192 .f32) : Vec Ideal S49152x8192 .f32 :=
  refDist (wideX X) Xs (wideC Cb) Cs

/-- The region's contents as the later lines find them give that table. -/
theorem table_eq (c : Dev nD) :
    let W := Pipeline.withArrays spec0 c (V0 m c) (fun w => (dats (F := Ideal) m 0 c).arrAt w cfg0.N)
    refDist (W (Proc.devRef .tc main_v0_0)) (W (Proc.devRef .tc main_arg1)) (W (Proc.devRef .tc main_v0_1)) (W (Proc.devRef .tc main_arg3))
      = table (argX m c) (argXs m c) (argCb m c) (argCs m c) := by
  intro W
  have h2 : W (Proc.devRef .tc main_v0_0) = wideX (argX m c) :=
    (Pipeline.withArrays_arr spec0 launch0.win.arr_inj c (V0 m c) (fun w => (dats (F := Ideal) m 0 c).arrAt w cfg0.N) 2).trans (final2 m c)
  have h3 : W (Proc.devRef .tc main_v0_1) = wideC (argCb m c) :=
    (Pipeline.withArrays_arr spec0 launch0.win.arr_inj c (V0 m c) (fun w => (dats (F := Ideal) m 0 c).arrAt w cfg0.N) 3).trans (final3 m c)
  have h1 : W (Proc.devRef .tc main_arg1) = argXs m c :=
    (Pipeline.withArrays_of_ne _ c (V0 m c) _ main_arg1 (by exact (by decide : ∀ w, Pipeline.arrRef spec0 w ≠ main_arg1))).trans (V_main_arg1 m c)
  have h4 : W (Proc.devRef .tc main_arg3) = argCs m c :=
    (Pipeline.withArrays_of_ne _ c (V0 m c) _ main_arg3 (by exact (by decide : ∀ w, Pipeline.arrRef spec0 w ≠ main_arg3))).trans (V_main_arg3 m c)
  rw [h1, h2, h3, h4]
  rfl

/-- The reference's two results, at rows of 4096 tokens. -/
def refBest (D : Vec Ideal S49152x8192 .f32) : Vec Ideal S12x4096 .f32 := shapeCast S12x4096 (refFirst D) shapeCasts_S49152_S12x4096
/-- And the gaps. -/
def refGap (D : Vec Ideal S49152x8192 .f32) : Vec Ideal S12x4096 .f32 :=
  shapeCast S12x4096 (subf (F := Ideal) (φ := .f32) (refSecond D) (refFirst D)) shapeCasts_S49152_S12x4096

/-- The first result's buffer at the end of the run, -/
theorem result33 (c : Dev nD) : Pipeline.afterTail₀ cfgs (dats (F := Ideal) m) 0 (V0 m) [hostOps1] c main_v33
    = refBest (table (argX m c) (argXs m c) (argCb m c) (argCs m c)) := by
  unfold Pipeline.afterTail₀
  simp only [List.flatten_cons, List.flatten_nil, List.append_nil]
  exact (tail_v33 _).trans (congrArg refBest (table_eq m c))

/-- and the second's. -/
theorem result35 (c : Dev nD) : Pipeline.afterTail₀ cfgs (dats (F := Ideal) m) 0 (V0 m) [hostOps1] c main_v35
    = refGap (table (argX m c) (argXs m c) (argCb m c) (argCs m c)) := by
  unfold Pipeline.afterTail₀
  simp only [List.flatten_cons, List.flatten_nil, List.append_nil]
  exact (tail_v35 _).trans (congrArg refGap (table_eq m c))

/-- The run: the two results as these functions of the arguments, the arguments unchanged. -/
theorem run_value : θ_run defs (onTc (τ := τ) (main (F := Ideal))) ⟨m, fun _ => 0, ρ⟩ (fun r => ∀ c : Dev nD,
      r.2.mem ((c.tc : Thread nD τ).loc main_v33) = refBest (table (argX m c) (argXs m c) (argCb m c) (argCs m c))
      ∧ r.2.mem ((c.tc : Thread nD τ).loc main_v35) = refGap (table (argX m c) (argXs m c) (argCb m c) (argCs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h.2 c).2 main_v33 (Pipeline.mem_restRefs_of main_v33 (by decide) (by decide))).trans (result33 m c)),
      (((h.2 c).2 main_v35 (Pipeline.mem_restRefs_of main_v35 (by decide) (by decide))).trans (result35 m c)), h.1 c⟩)
    (θ_run_and (unchanged m ρ) (run_main m ρ))

/-- A row of tokens read as rows of 4096. -/
theorem rows_cast (v : Vec Ideal S49152 .f32) (b : Fin 12) (s : Fin 4096) :
    shapeCast S12x4096 v shapeCasts_S49152_S12x4096 (ix2 b s) = v (ix1 ⟨4096 * b.val + s.val, by omega⟩) := by
  refine shapeCast_apply _ _ _ _ ?_
  rw [Shape.rowMajor_val_two, Shape.rowMajor_val_one]
  show 4096 * b.val + s.val = b.val * 4096 + s.val
  omega

end Cert.ReferenceIdeal.Hand
end
-- ==== Proof.Equation.lean ====
/- The kernel's two results are the reference's: the token's own term, which the kernel adds once after its search,
   is added by the reference to every distance before its selection. -/
module

public import proofs.«01_k».proof.Proof.RefValue
public import proofs.«01_k».proof.Proof.KernelValue

@[expose] public section

-- membership in a rectangle of production extents (`View.cover_of_tiled`): the elaborator's structural look
-- recurses once per coordinate of the long axes
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand (tokT codeT distT bestTok gapTok bestTokArr gapTokArr two codeRow tokB tokS)

variable (X : Vec Ideal S12x4096x32 .fp8e4m3) (Xs : Vec Ideal S12x4096 .f32) (Cb : Vec Ideal S8192x32 .fp8e4m3) (Cs : Vec Ideal S8192 .f32)

/-- Both sides number the tokens alike: the row, -/
theorem tokB_eq (T : Fin 49152) : tokB T.val = rowOf T := Fin.ext (by show T.val / 4096 % 12 = T.val / 4096; omega)
/-- the column, -/
theorem tokS_eq (T : Fin 49152) : tokS T.val = colOf T := rfl
/-- and the codes. -/
theorem codeRow_eq (n : Fin 8192) : codeRow n.val = n := Fin.ext (by show n.val % 8192 = n.val; omega)

/-- One token, one code: the reference's distance is the token's own term added to the kernel's. -/
theorem table_apply (T : Fin 49152) (n : Fin 8192) :
    (table X Xs Cb Cs (ix2 T n) : EReal) = tokT X Xs T.val + distT X Xs Cb Cs T.val n.val := by
  have e := refDist_apply (wideX X) Xs (wideC Cb) Cs T n
  unfold table
  refine e.trans ?_
  unfold tokT distT codeT
  rw [tokB_eq, tokS_eq, codeRow_eq, sub_eq_add_neg, sub_eq_add_neg, add_assoc]
  have hs : (∑ d : Fin 32, (X (ix3 (rowOf T) (colOf T) d) : EReal) * Cb (ix2 n d)) = ∑ d : Fin 32, (Cb (ix2 n d) : EReal) * X (ix3 (rowOf T) (colOf T) d) :=
    Finset.sum_congr rfl fun d _ => mul_comm _ _
  have hp : (two * ((Xs (ix2 (rowOf T) (colOf T)) : EReal) * Cs (ix1 n))) * (∑ d : Fin 32, (X (ix3 (rowOf T) (colOf T) d) : EReal) * Cb (ix2 n d))
      = ((∑ d : Fin 32, (Cb (ix2 n d) : EReal) * X (ix3 (rowOf T) (colOf T) d)) * (two * (Cs (ix1 n) : EReal))) * (Xs (ix2 (rowOf T) (colOf T)) : EReal) := by
    rw [hs, mul_comm (Xs (ix2 (rowOf T) (colOf T)) : EReal), ← mul_assoc, mul_comm, ← mul_assoc]
  exact congrArg (fun a : EReal => ((Xs (ix2 (rowOf T) (colOf T)) : EReal) * Xs (ix2 (rowOf T) (colOf T)) * ∑ d : Fin 32, (X (ix3 (rowOf T) (colOf T) d) : EReal) * X (ix3 (rowOf T) (colOf T) d))
    + ((Cs (ix1 n) : EReal) * Cs (ix1 n) * (∑ d : Fin 32, (Cb (ix2 n d) : EReal) * Cb (ix2 n d)) + -a)) hp

/-- The two smallest distances of a token, the kernel's way and the reference's. -/
theorem pair_eq (T : Fin 49152) :
    tokT X Xs T.val + TwoMin.least (Finset.range 8192) (distT X Xs Cb Cs T.val) = table X Xs Cb Cs (ix2 T (rank (table X Xs Cb Cs) T 0))
    ∧ tokT X Xs T.val + TwoMin.second (Finset.range 8192) (distT X Xs Cb Cs T.val) = table X Xs Cb Cs (ix2 T (rank (table X Xs Cb Cs) T 1)) := by
  have h := TwoMin.map_pair (fun a => tokT X Xs T.val + a) (fun _ _ hab => add_le_add le_rfl hab) (Finset.range 8192) (distT X Xs Cb Cs T.val)
    (rank (table X Xs Cb Cs) T 0).val (rank (table X Xs Cb Cs) T 1).val
    (Finset.mem_range.2 (Fin.isLt _)) (Finset.mem_range.2 (Fin.isLt _)) (fun e => first_ne _ T (Fin.ext e))
    (by
      have a := first_le (table X Xs Cb Cs) T
      rw [table_apply, table_apply] at a
      exact a)
    (fun r hr h0 h1 => by
      have a := second_le (table X Xs Cb Cs) T ⟨r, Finset.mem_range.1 hr⟩ (fun e => h0 (congrArg Fin.val e)) (fun e => h1 (congrArg Fin.val e))
      rw [table_apply, table_apply] at a
      exact a)
  rw [table_apply, table_apply]
  exact h

/-- The first result. -/
theorem best_eq : refBest (table X Xs Cb Cs) = bestTokArr X Xs Cb Cs := by
  funext y
  obtain ⟨b, s, rfl⟩ : ∃ (b : Fin 12) (s : Fin 4096), y = ix2 b s := ⟨y 0, y 1, funext fun a => by match a with | ⟨0, _⟩ => rfl | ⟨1, _⟩ => rfl⟩
  refine (rows_cast _ b s).trans ((refFirst_apply _ _).trans ?_)
  exact (pair_eq X Xs Cb Cs ⟨4096 * b.val + s.val, by omega⟩).1.symm

/-- The second result. -/
theorem gap_eq : refGap (table X Xs Cb Cs) = gapTokArr X Xs Cb Cs := by
  funext y
  obtain ⟨b, s, rfl⟩ : ∃ (b : Fin 12) (s : Fin 4096), y = ix2 b s := ⟨y 0, y 1, funext fun a => by match a with | ⟨0, _⟩ => rfl | ⟨1, _⟩ => rfl⟩
  refine (rows_cast _ b s).trans ?_
  rw [ValueIdx.subf_apply]
  have h := pair_eq X Xs Cb Cs ⟨4096 * b.val + s.val, by omega⟩
  exact congrArg₂ (fun p q : EReal => p - q) ((refSecond_apply _ _).trans h.2.symm) ((refFirst_apply _ _).trans h.1.symm)

end Cert.ReferenceIdeal.Hand
end
-- ==== Proof.lean ====
/- The certificate, assembled: the frames of the kernel, of its reading over the extended reals and of the reference,
   the preservation of the kernel by that reading, and the equality of both results with the reference's. -/
module

public import proofs.«01_k».proof.Defs
public import proofs.«01_k».proof.Proof.KernelFrame
public import proofs.«01_k».proof.Proof.KernelIdealFrame
public import proofs.«01_k».proof.Proof.KernelValue
public import proofs.«01_k».proof.Proof.Equation
public import proofs.«01_k».proof.Proof.Gen.ReferenceIdeal.Frame
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- From memories that agree on the four arguments, the kernel over the extended reals and the reference end with the
    same smallest distances and the same gaps, and leave their arguments unchanged. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.bestTokArr (Cert.KernelIdeal.Hand.argX m c) (Cert.KernelIdeal.Hand.argXs m c) (Cert.KernelIdeal.Hand.argCb m c) (Cert.KernelIdeal.Hand.argCs m c),
    fun c => Cert.KernelIdeal.Hand.gapTokArr (Cert.KernelIdeal.Hand.argX m c) (Cert.KernelIdeal.Hand.argXs m c) (Cert.KernelIdeal.Hand.argCb m c) (Cert.KernelIdeal.Hand.argCs m c),
    Cert.KernelIdeal.Hand.run_value m g, (θ_run _ _ _).mono (fun r h c => ?_) (Cert.ReferenceIdeal.Hand.run_value m' g')⟩
  obtain ⟨h0, h1, h2, h3⟩ := hargs c
  obtain ⟨hb, hg, hr⟩ := h c
  have e0 : Cert.ReferenceIdeal.Hand.argX m' c = Cert.KernelIdeal.Hand.argX m c := h0
  have e1 : Cert.ReferenceIdeal.Hand.argXs m' c = Cert.KernelIdeal.Hand.argXs m c := h1
  have e2 : Cert.ReferenceIdeal.Hand.argCb m' c = Cert.KernelIdeal.Hand.argCb m c := h2
  have e3 : Cert.ReferenceIdeal.Hand.argCs m' c = Cert.KernelIdeal.Hand.argCs m c := h3
  rw [e0, e1, e2, e3] at hb hg
  exact ⟨hb.trans (Cert.ReferenceIdeal.Hand.best_eq _ _ _ _), hg.trans (Cert.ReferenceIdeal.Hand.gap_eq _ _ _ _), hr⟩

/-- The five claims together, at the facts the generated modules prove. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  algebraic⟩

end Cert.Proof

end
